-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def preserves_Kernel_KernelIdeal : Prop :=
  IdealRules.named_const.Statement Cert.KernelIdeal.κ "exp_zero_below" .f32 0xC2DC0000#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v3) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v12)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v12) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v45) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v9_0)) (v1 : (c : Dev Cert.OutprojIdeal.nD) → Buf (Elt Ideal) ((c.tc : Thread Cert.OutprojIdeal.nD Cert.OutprojIdeal.τ).loc Cert.OutprojIdeal.main_v9_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v9_0) = v0 c
          ∧ r.2.mem ((c.tc : Thread Cert.OutprojIdeal.nD Cert.OutprojIdeal.τ).loc Cert.OutprojIdeal.main_v9_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v48) = v0 c
          ∧ r.2.mem ((c.tc : Thread Cert.OutprojRefIdeal.nD Cert.OutprojRefIdeal.τ).loc Cert.OutprojRefIdeal.main_v50) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v11)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v11) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v75) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hPle : Cert.Ple.Facts) (hPleIdeal : Cert.PleIdeal.Facts) (hPleRefIdeal : Cert.PleRefIdeal.Facts) (hOutproj : Cert.Outproj.Facts) (hOutprojIdeal : Cert.OutprojIdeal.Facts) (hOutprojRefIdeal : Cert.OutprojRefIdeal.Facts) (hGmlp : Cert.Gmlp.Facts) (hGmlpIdeal : Cert.GmlpIdeal.Facts) (hGmlpRefIdeal : Cert.GmlpRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Inproj (hInproj := hInproj)
    ∧ quiescent_InprojIdeal (hInprojIdeal := hInprojIdeal)
    ∧ quiescent_InprojRefIdeal (hInprojRefIdeal := hInprojRefIdeal)
    ∧ quiescent_Ple (hPle := hPle)
    ∧ quiescent_PleIdeal (hPleIdeal := hPleIdeal)
    ∧ quiescent_PleRefIdeal (hPleRefIdeal := hPleRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Inproj_InprojIdeal
    ∧ algebraic_InprojIdeal_InprojRefIdeal (hInprojIdeal := hInprojIdeal) (hInprojRefIdeal := hInprojRefIdeal)
    ∧ preserves_Ple_PleIdeal
    ∧ algebraic_PleIdeal_PleRefIdeal (hPleIdeal := hPleIdeal) (hPleRefIdeal := hPleRefIdeal)
    ∧ preserves_Outproj_OutprojIdeal
    ∧ algebraic_OutprojIdeal_OutprojRefIdeal (hOutprojIdeal := hOutprojIdeal) (hOutprojRefIdeal := hOutprojRefIdeal)
    ∧ preserves_Gmlp_GmlpIdeal
    ∧ algebraic_GmlpIdeal_GmlpRefIdeal (hGmlpIdeal := hGmlpIdeal) (hGmlpRefIdeal := hGmlpRefIdeal)
-- ==== Pre_finite_qk.lean ====
abbrev S4x8192x2560 : Shape := ⟨3, ![4, 8192, 2560]⟩
abbrev S4x8192x1024 : Shape := ⟨3, ![4, 8192, 1024]⟩
abbrev S_ : Shape := ⟨0, ![]⟩

class Facts : Prop where
  slices_S4x8192x2560_S4x8192x1024_0_0_0 : S4x8192x2560.Slices ![0, 0, 0] S4x8192x1024
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel

variable [Facts]

def fn {F : FTy → Type} [FloatOps F] (main_arg0 : FVec F S4x8192x2560 .bf16) : IVec S_ 1 :=
  let main_v0 : FVec F S4x8192x1024 .bf16 := (extractStridedSlice S4x8192x1024 ![0, 0, 0] · slices_S4x8192x2560_S4x8192x1024_0_0_0) main_arg0
  let main_v1 : FVec F S4x8192x1024 .f32 := (extf .f32 · bitsLt_bf16_f32) main_v0
  let main_v2 : FVec F S4x8192x1024 .f32 := Host.absf main_v1
  let main_cst : FVec F S_ .f32 := constant S_ .f32 0x7F800000#32
  let main_v3 : FVec F S4x8192x1024 .f32 := broadcastInDim S4x8192x1024 ![] bcast_S_S4x8192x1024 main_cst
  let main_v4 : IVec S4x8192x1024 1 := cmpf .olt main_v2 main_v3
  let main_c : IVec S_ 1 := constantI S_ 1 1#1
  let main_v5 : IVec S_ 1 := (fun x v => Host.reduce IntOp.andi x v reducesTo_S4x8192x1024_S_d0_1_2 h_S_) main_v4 main_c
  main_v5
-- ==== Kernel.lean ====
abbrev S4x8192x2560 : Shape := ⟨3, ![4, 8192, 2560]⟩
abbrev S4x8192x512 : Shape := ⟨3, ![4, 8192, 512]⟩
abbrev S1x256x128 : Shape := ⟨3, ![1, 256, 128]⟩
abbrev S1x8192x128 : Shape := ⟨3, ![1, 8192, 128]⟩
abbrev S2x256x128 : Shape := ⟨3, ![2, 256, 128]⟩
abbrev S256x128 : Shape := ⟨2, ![256, 128]⟩
abbrev S128x256 : Shape := ⟨2, ![128, 256]⟩
abbrev S256x256 : Shape := ⟨2, ![256, 256]⟩
abbrev S1x128x128 : Shape := ⟨3, ![1, 128, 128]⟩
abbrev S128x128 : Shape := ⟨2, ![128, 128]⟩
abbrev S1 : Shape := ⟨1, ![1]⟩
abbrev S1x1x1 : Shape := ⟨3, ![1, 1, 1]⟩

abbrev nBuf : Space → Nat
  | .hbm => 2
  | .vmem => 10
  | .smem => 0
  | _ => 0

abbrev bufTy : (tb : Table) → Fin (tcTables nBuf tb) → BufTy
  | .hbm, ⟨0, _⟩ => ⟨S4x8192x2560, .bf16⟩
  | .hbm, ⟨1, _⟩ => ⟨S4x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S2x256x128, .f32⟩
  | .local _ .vmem, ⟨9, _⟩ => ⟨S2x256x128, .f32⟩
  | _, _ => ⟨S4x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def k0_mult1 (arg9 : BitVec 32) : BitVec 32 :=
  let c512_i32 : BitVec 32 := 512#32
  let v47 : BitVec 32 := Scalar.subi arg9 c512_i32
  let c0_i32 : BitVec 32 := 0#32
  let v48 : BitVec 32 := Scalar.maxsi v47 c0_i32
  v48

def k0_mult2 (arg9 : BitVec 32) : BitVec 32 :=
  let c512_i32 : BitVec 32 := 512#32
  let v47 : BitVec 32 := Scalar.subi arg9 c512_i32
  let c0_i32 : BitVec 32 := 0#32
  let v48 : BitVec 32 := Scalar.maxsi v47 c0_i32
  let v49 : BitVec 32 := v48
  let c0_i32_24 : BitVec 32 := 0#32
  let v54 : BitVec 32 := Scalar.addi v49 c0_i32_24
  v54
def k0_mult3 (arg9 : BitVec 32) : BitVec 32 :=
  let c512_i32 : BitVec 32 := 512#32
  let v47 : BitVec 32 := Scalar.subi arg9 c512_i32
  let c0_i32 : BitVec 32 := 0#32
  let v48 : BitVec 32 := Scalar.maxsi v47 c0_i32
  let v49 : BitVec 32 := v48
  let c128_i32_25 : BitVec 32 := 128#32
  let v56 : BitVec 32 := Scalar.addi v49 c128_i32_25
  v56
def k0_mult4 (arg9 : BitVec 32) : BitVec 32 :=
  let c512_i32 : BitVec 32 := 512#32
  let v47 : BitVec 32 := Scalar.subi arg9 c512_i32
  let c0_i32 : BitVec 32 := 0#32
  let v48 : BitVec 32 := Scalar.maxsi v47 c0_i32
  let v49 : BitVec 32 := v48
  let c256_i32_26 : BitVec 32 := 256#32
  let v58 : BitVec 32 := Scalar.addi v49 c256_i32_26
  v58
def k0_mult5 (arg9 : BitVec 32) : BitVec 32 :=
  let c512_i32 : BitVec 32 := 512#32
  let v47 : BitVec 32 := Scalar.subi arg9 c512_i32
  let c0_i32 : BitVec 32 := 0#32
  let v48 : BitVec 32 := Scalar.maxsi v47 c0_i32
  let v49 : BitVec 32 := v48
  let c384_i32 : BitVec 32 := 384#32
  let v60 : BitVec 32 := Scalar.addi v49 c384_i32
  v60
def k0_off1 (arg9 : BitVec 32) (c0_i32_24 : BitVec 32) : Fin 3 → Nat :=
  let c0_31 : Index := 0#32
  let c512_i32 : BitVec 32 := 512#32
  let v47 : BitVec 32 := Scalar.subi arg9 c512_i32
  let c0_i32 : BitVec 32 := 0#32
  let v48 : BitVec 32 := Scalar.maxsi v47 c0_i32
  let v49 : BitVec 32 := v48
  let v54 : BitVec 32 := Scalar.addi v49 c0_i32_24
  let v55 : BitVec 32 := v54
  let v74 : Index := Scalar.indexCast v55
  let c0_32 : Index := 0#32
  ![0, v74.toNat, 0]

def k0_chk1 (arg9 : BitVec 32) : Prop :=
  (128 ∣ (k0_mult1 arg9).toNat) ∧
  (128 ∣ (k0_mult2 arg9).toNat) ∧
  (128 ∣ (k0_mult3 arg9).toNat) ∧
  (128 ∣ (k0_mult4 arg9).toNat) ∧
  (128 ∣ (k0_mult5 arg9).toNat) ∧
  (∀ (r : Fin 4), ∀ a, (k0_off1 arg9 (BitVec.ofNat 32 (128 * r.val))) a + S1x128x128.size a ≤ S1x8192x128.size a)
theorem k0_mult1_dvd : ∀ (arg9 : BitVec 32) (k0_hw1 : k0_chk1 arg9), 128 ∣ (k0_mult1 arg9).toNat := fun arg9 k0_hw1 => k0_hw1.1
theorem k0_mult2_dvd : ∀ (arg9 : BitVec 32) (k0_hw1 : k0_chk1 arg9), 128 ∣ (k0_mult2 arg9).toNat := fun arg9 k0_hw1 => k0_hw1.2.1
theorem k0_mult3_dvd : ∀ (arg9 : BitVec 32) (k0_hw1 : k0_chk1 arg9), 128 ∣ (k0_mult3 arg9).toNat := fun arg9 k0_hw1 => k0_hw1.2.2.1
theorem k0_mult4_dvd : ∀ (arg9 : BitVec 32) (k0_hw1 : k0_chk1 arg9), 128 ∣ (k0_mult4 arg9).toNat := fun arg9 k0_hw1 => k0_hw1.2.2.2.1
theorem k0_mult5_dvd : ∀ (arg9 : BitVec 32) (k0_hw1 : k0_chk1 arg9), 128 ∣ (k0_mult5 arg9).toNat := fun arg9 k0_hw1 => k0_hw1.2.2.2.2.1
theorem k0_off1_inb : ∀ (arg9 : BitVec 32) (k0_hw1 : k0_chk1 arg9), ∀ (r : Fin 4), ∀ a, (k0_off1 arg9 (BitVec.ofNat 32 (128 * r.val))) a + S1x128x128.size a ≤ S1x8192x128.size a := fun arg9 k0_hw1 r => k0_hw1.2.2.2.2.2 r

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "exp_zero_below" => some ⊥
  | _ => none
-- ==== ReferenceIdeal.lean ====
abbrev S4x8192x2560 : Shape := ⟨3, ![4, 8192, 2560]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 75
  | .vmem => 0
  | .smem => 0
  | _ => 0

abbrev bufTy : (tb : Table) → Fin (tcTables nBuf tb) → BufTy
  | .hbm, ⟨0, _⟩ => ⟨S4x8192x2560, .bf16⟩
  | .hbm, ⟨1, _⟩ => ⟨S4x8192x2560, .f32⟩
  | .hbm, ⟨2, _⟩ => ⟨S4x8192x512, .f32⟩
  | .hbm, ⟨3, _⟩ => ⟨S4x8192x8x64, .f32⟩
  | .hbm, ⟨4, _⟩ => ⟨S4x8192x512, .f32⟩
  | .hbm, ⟨5, _⟩ => ⟨S4x8192x8x64, .f32⟩
  | .hbm, ⟨6, _⟩ => ⟨S4x8192x512, .f32⟩
  | .hbm, ⟨7, _⟩ => ⟨S4x8192x8x64, .f32⟩
  | .hbm, ⟨8, _⟩ => ⟨S4x8x8192x64, .f32⟩
  | .hbm, ⟨9, _⟩ => ⟨S4x8x8192x64, .f32⟩
  | .hbm, ⟨10, _⟩ => ⟨S4x8x8192x64, .f32⟩
  | .hbm, ⟨11, _⟩ => ⟨S4x8x8192x8192, .f32⟩
  | .hbm, ⟨12, _⟩ => ⟨S_, .f32⟩
  | .hbm, ⟨13, _⟩ => ⟨S4x8x8192x8192, .f32⟩
  | .hbm, ⟨14, _⟩ => ⟨S4x8x8192x8192, .f32⟩
  | .hbm, ⟨15, _⟩ => ⟨S8192, .i32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S4x8x8192x8192, .f32⟩
  | .hbm, ⟨23, _⟩ => ⟨S_, .f32⟩
  | .hbm, ⟨24, _⟩ => ⟨S4x8x8192x8192, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .i1⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S4x8x8192x8192, .f32⟩
  | .hbm, ⟨40, _⟩ => ⟨S_, .f32⟩
  | .hbm, ⟨41, _⟩ => ⟨S4x8x8192x8192, .f32⟩
  | .hbm, ⟨42, _⟩ => ⟨S4x8x8192x8192, .f32⟩
  | .hbm, ⟨43, _⟩ => ⟨S4x8x8192x8192, .f32⟩
  | .hbm, ⟨44, _⟩ => ⟨S4x8x8192x8192, .f32⟩
  | .hbm, ⟨45, _⟩ => ⟨S4x8x8192x8192, .i1⟩
  | .hbm, ⟨46, _⟩ => ⟨S4x8x8192x8192, .f32⟩
  | .hbm, ⟨47, _⟩ => ⟨S4x8x8192x8192, .f32⟩
  | .hbm, ⟨48, _⟩ => ⟨S4x8x8192x8192, .f32⟩
  | .hbm, ⟨49, _⟩ => ⟨S4x8x8192x8192, .f32⟩
  | .hbm, ⟨50, _⟩ => ⟨S4x8x8192x8192, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S_, .f32⟩
  | .hbm, ⟨56, _⟩ => ⟨S_, .f32⟩
  | .hbm, ⟨57, _⟩ => ⟨S4x8x8192x8192, .i1⟩
  | .hbm, ⟨58, _⟩ => ⟨S4x8x8192x8192, .f32⟩
  | .hbm, ⟨59, _⟩ => ⟨S4x8x8192x8192, .f32⟩
  | .hbm, ⟨60, _⟩ => ⟨S_, .f32⟩
  | .hbm, ⟨61, _⟩ => ⟨S_, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S_, .f32⟩
  | .hbm, ⟨67, _⟩ => ⟨S_, .f32⟩
  | .hbm, ⟨68, _⟩ => ⟨S4x8x8192x8192, .i1⟩
  | .hbm, ⟨69, _⟩ => ⟨S4x8x8192x8192, .f32⟩
  | .hbm, ⟨70, _⟩ => ⟨S4x8x8192x8192, .f32⟩
  | .hbm, ⟨71, _⟩ => ⟨S4x8x8192x64, .f32⟩
  | .hbm, ⟨72, _⟩ => ⟨S4x8192x8x64, .f32⟩
  | .hbm, ⟨73, _⟩ => ⟨S4x8192x512, .f32⟩
  | .hbm, ⟨74, _⟩ => ⟨S4x8192x512, .bf16⟩
  | _, _ => ⟨S4x8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v22 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v23 : Ref sig .tc := ⟨.hbm, 59, rfl⟩
abbrev main_call3_cst : Ref sig .tc := ⟨.hbm, 60, rfl⟩
abbrev main_call3_v0 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Inproj.lean ====
abbrev S4x8192x1024 : Shape := ⟨3, ![4, 8192, 1024]⟩
abbrev S1x1024x2560 : Shape := ⟨3, ![1, 1024, 2560]⟩
abbrev S32768x1024 : Shape := ⟨2, ![32768, 1024]⟩
abbrev S1024x2560 : Shape := ⟨2, ![1024, 2560]⟩
abbrev S32768x2560 : Shape := ⟨2, ![32768, 2560]⟩
abbrev S512x1024 : Shape := ⟨2, ![512, 1024]⟩
abbrev S512x2560 : Shape := ⟨2, ![512, 2560]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S1x1024x2560, .f32⟩
  | .hbm, ⟨2, _⟩ => ⟨S32768x1024, .f32⟩
  | .hbm, ⟨3, _⟩ => ⟨S1024x2560, .f32⟩
  | .hbm, ⟨4, _⟩ => ⟨S1024x2560, .bf16⟩
  | .hbm, ⟨5, _⟩ => ⟨S32768x2560, .bf16⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x2560, .bf16⟩
  | .local _ .vmem, ⟨4, _⟩ => ⟨S512x2560, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InprojRefIdeal.lean ====
abbrev S4x8192x1024 : Shape := ⟨3, ![4, 8192, 1024]⟩
abbrev S1x1024x2560 : Shape := ⟨3, ![1, 1024, 2560]⟩
abbrev S1024x2560 : Shape := ⟨2, ![1024, 2560]⟩
abbrev S4x8192x2560 : Shape := ⟨3, ![4, 8192, 2560]⟩
abbrev S32768x2560 : Shape := ⟨2, ![32768, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x2560, .f32⟩
  | .hbm, ⟨2, _⟩ => ⟨S1024x2560, .f32⟩
  | .hbm, ⟨3, _⟩ => ⟨S4x8192x2560, .f32⟩
  | .hbm, ⟨4, _⟩ => ⟨S32768x2560, .f32⟩
  | .hbm, ⟨5, _⟩ => ⟨S32768x2560, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ple.lean ====
abbrev S32768x1024 : Shape := ⟨2, ![32768, 1024]⟩
abbrev S1x4x8192x256 : Shape := ⟨4, ![1, 4, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S4x8192x256 : Shape := ⟨3, ![4, 8192, 256]⟩
abbrev S32768x256 : Shape := ⟨2, ![32768, 256]⟩
abbrev S1024x1024 : Shape := ⟨2, ![1024, 1024]⟩
abbrev S1024 : Shape := ⟨1, ![1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1x4x8192x256, .f32⟩
  | .hbm, ⟨2, _⟩ => ⟨S1x1024x1024, .f32⟩
  | .hbm, ⟨3, _⟩ => ⟨S1x1024, .f32⟩
  | .hbm, ⟨4, _⟩ => ⟨S1x256x1024, .f32⟩
  | .hbm, ⟨5, _⟩ => ⟨S1x1024, .f32⟩
  | .hbm, ⟨6, _⟩ => ⟨S1x1024, .f32⟩
  | .hbm, ⟨7, _⟩ => ⟨S4x8192x256, .f32⟩
  | .hbm, ⟨8, _⟩ => ⟨S32768x256, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S256x1024, .f32⟩
  | .hbm, ⟨13, _⟩ => ⟨S256x1024, .bf16⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S32768x1024 : Shape := ⟨2, ![32768, 1024]⟩
abbrev S1x4x8192x256 : Shape := ⟨4, ![1, 4, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024x1024 : Shape := ⟨2, ![1024, 1024]⟩
abbrev S1024 : Shape := ⟨1, ![1024]⟩
abbrev S_ : Shape := ⟨0, ![]⟩
abbrev S4x8192x256 : Shape := ⟨3, ![4, 8192, 256]⟩
abbrev S32768x256 : Shape := ⟨2, ![32768, 256]⟩
abbrev S256x1024 : Shape := ⟨2, ![256, 1024]⟩
abbrev S32768 : Shape := ⟨1, ![32768]⟩
abbrev S32768x1 : Shape := ⟨2, ![32768, 1]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x4x8192x256, .f32⟩
  | .hbm, ⟨2, _⟩ => ⟨S1x1024x1024, .f32⟩
  | .hbm, ⟨3, _⟩ => ⟨S1x1024, .f32⟩
  | .hbm, ⟨4, _⟩ => ⟨S1x256x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S32768x1024, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S4x8192x256, .f32⟩
  | .hbm, ⟨22, _⟩ => ⟨S32768x256, .f32⟩
  | .hbm, ⟨23, _⟩ => ⟨S256x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Outproj.lean ====
abbrev S32768x512 : Shape := ⟨2, ![32768, 512]⟩
abbrev S4x8192x1024 : Shape := ⟨3, ![4, 8192, 1024]⟩
abbrev S1x512 : Shape := ⟨2, ![1, 512]⟩
abbrev S1x1024x1024 : Shape := ⟨3, ![1, 1024, 1024]⟩
abbrev S1x1024 : Shape := ⟨2, ![1, 1024]⟩
abbrev S32768x1024 : Shape := ⟨2, ![32768, 1024]⟩
abbrev S512 : Shape := ⟨1, ![512]⟩
abbrev S1024x1024 : Shape := ⟨2, ![1024, 1024]⟩
abbrev S1024 : Shape := ⟨1, ![1024]⟩
abbrev S1024x32768 : Shape := ⟨2, ![1024, 32768]⟩
abbrev S512x512 : Shape := ⟨2, ![512, 512]⟩
abbrev S512x1024 : Shape := ⟨2, ![512, 1024]⟩
abbrev S1024x512 : Shape := ⟨2, ![1024, 512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S4x8192x1024, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S32768x1024, .f32⟩
  | .hbm, ⟨8, _⟩ => ⟨S512, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1024, .f32⟩
  | .hbm, ⟨13, _⟩ => ⟨S1x512, .f32⟩
  | .hbm, ⟨14, _⟩ => ⟨S1x1024, .f32⟩
  | .hbm, ⟨15, _⟩ => ⟨S1x1024, .f32⟩
  | .hbm, ⟨16, _⟩ => ⟨S32768x1024, .f32⟩
  | .hbm, ⟨17, _⟩ => ⟨S1024x32768, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1024x512, .bf16⟩
  | .local _ .vmem, ⟨13, _⟩ => ⟨S1024x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutprojRefIdeal.lean ====
abbrev S32768x512 : Shape := ⟨2, ![32768, 512]⟩
abbrev S4x8192x1024 : Shape := ⟨3, ![4, 8192, 1024]⟩
abbrev S1x512 : Shape := ⟨2, ![1, 512]⟩
abbrev S1x1024x1024 : Shape := ⟨3, ![1, 1024, 1024]⟩
abbrev S1x1024 : Shape := ⟨2, ![1, 1024]⟩
abbrev S512 : Shape := ⟨1, ![512]⟩
abbrev S_ : Shape := ⟨0, ![]⟩
abbrev S32768 : Shape := ⟨1, ![32768]⟩
abbrev S32768x1 : Shape := ⟨2, ![32768, 1]⟩
abbrev S32768x1024 : Shape := ⟨2, ![32768, 1024]⟩
abbrev S1024x1024 : Shape := ⟨2, ![1024, 1024]⟩
abbrev S1024 : Shape := ⟨1, ![1024]⟩
abbrev S1024x32768 : Shape := ⟨2, ![1024, 32768]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S4x8192x1024, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S32768x512, .f32⟩
  | .hbm, ⟨8, _⟩ => ⟨S512, .f32⟩
  | .hbm, ⟨9, _⟩ => ⟨S32768x512, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x512, .f32⟩
  | .hbm, ⟨21, _⟩ => ⟨S32768x512, .f32⟩
  | .hbm, ⟨22, _⟩ => ⟨S1x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x1024, .f32⟩
  | .hbm, ⟨27, _⟩ => ⟨S1024x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1024x32768, .f32⟩
  | .hbm, ⟨66, _⟩ => ⟨S1024x32768, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Gmlp.lean ====
abbrev S32768x2560 : Shape := ⟨2, ![32768, 2560]⟩
abbrev S1x512 : Shape := ⟨2, ![1, 512]⟩
abbrev S1x8x128x128 : Shape := ⟨4, ![1, 8, 128, 128]⟩
abbrev S1x8x128 : Shape := ⟨3, ![1, 8, 128]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S32768x512 : Shape := ⟨2, ![32768, 512]⟩
abbrev S512x512 : Shape := ⟨2, ![512, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 18
  | .vmem => 11
  | .smem => 0
  | _ => 0

abbrev bufTy : (tb : Table) → Fin (tcTables nBuf tb) → BufTy
  | .hbm, ⟨0, _⟩ => ⟨S32768x2560, .bf16⟩
  | .hbm, ⟨1, _⟩ => ⟨S1x512, .f32⟩
  | .hbm, ⟨2, _⟩ => ⟨S1x512, .f32⟩
  | .hbm, ⟨3, _⟩ => ⟨S1x8x128x128, .f32⟩
  | .hbm, ⟨4, _⟩ => ⟨S1x8x128, .f32⟩
  | .hbm, ⟨5, _⟩ => ⟨S1x512, .f32⟩
  | .hbm, ⟨6, _⟩ => ⟨S512, .f32⟩
  | .hbm, ⟨7, _⟩ => ⟨S512, .f32⟩
  | .hbm, ⟨8, _⟩ => ⟨S8x128x128, .f32⟩
  | .hbm, ⟨9, _⟩ => ⟨S8x128, .f32⟩
  | .hbm, ⟨10, _⟩ => ⟨S512, .f32⟩
  | .hbm, ⟨11, _⟩ => ⟨S128x8, .f32⟩
  | .hbm, ⟨12, _⟩ => ⟨S128x8x64, .f32⟩
  | .hbm, ⟨13, _⟩ => ⟨S128x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpRefIdeal.lean ====
abbrev S32768x2560 : Shape := ⟨2, ![32768, 2560]⟩
abbrev S1x512 : Shape := ⟨2, ![1, 512]⟩
abbrev S1x8x128x128 : Shape := ⟨4, ![1, 8, 128, 128]⟩
abbrev S1x8x128 : Shape := ⟨3, ![1, 8, 128]⟩
abbrev S4x8192x2560 : Shape := ⟨3, ![4, 8192, 2560]⟩
abbrev S4x8192x512 : Shape := ⟨3, ![4, 8192, 512]⟩
abbrev S_ : Shape := ⟨0, ![]⟩
abbrev S512 : Shape := ⟨1, ![512]⟩
abbrev S4x8192 : Shape := ⟨2, ![4, 8192]⟩
abbrev S4x8192x1 : Shape := ⟨3, ![4, 8192, 1]⟩
abbrev S1x1x512 : Shape := ⟨3, ![1, 1, 512]⟩
abbrev S4x64x128x8x64 : Shape := ⟨5, ![4, 64, 128, 8, 64]⟩
abbrev S128x128 : Shape := ⟨2, ![128, 128]⟩
abbrev S8x128x128 : Shape := ⟨3, ![8, 128, 128]⟩
abbrev S1x128x128 : Shape := ⟨3, ![1, 128, 128]⟩
abbrev S8x4x64x64x128 : Shape := ⟨5, ![8, 4, 64, 64, 128]⟩
abbrev S8x128 : Shape := ⟨2, ![8, 128]⟩
abbrev S128x8 : Shape := ⟨2, ![128, 8]⟩
abbrev S1x1x128x8x1 : Shape := ⟨5, ![1, 1, 128, 8, 1]⟩
abbrev S32768x512 : Shape := ⟨2, ![32768, 512]⟩

abbrev nBuf : Space → Nat
  | .hbm => 103
  | .vmem => 0
  | .smem => 0
  | _ => 0

abbrev bufTy : (tb : Table) → Fin (tcTables nBuf tb) → BufTy
  | .hbm, ⟨0, _⟩ => ⟨S32768x2560, .bf16⟩
  | .hbm, ⟨1, _⟩ => ⟨S1x512, .f32⟩
  | .hbm, ⟨2, _⟩ => ⟨S1x512, .f32⟩
  | .hbm, ⟨3, _⟩ => ⟨S1x8x128x128, .f32⟩
  | .hbm, ⟨4, _⟩ => ⟨S1x8x128, .f32⟩
  | .hbm, ⟨5, _⟩ => ⟨S1x512, .f32⟩
  | .hbm, ⟨6, _⟩ => ⟨S32768x2560, .f32⟩
  | .hbm, ⟨7, _⟩ => ⟨S4x8192x2560, .f32⟩
  | .hbm, ⟨8, _⟩ => ⟨S4x8192x512, .f32⟩
  | .hbm, ⟨9, _⟩ => ⟨S4x8192x512, .f32⟩
  | .hbm, ⟨10, _⟩ => ⟨S_, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S_, .f32⟩
  | .hbm, ⟨15, _⟩ => ⟨S4x8192x512, .f32⟩
  | .hbm, ⟨16, _⟩ => ⟨S4x8192x512, .f32⟩
  | .hbm, ⟨17, _⟩ => ⟨S4x8192x512, .f32⟩
  | .hbm, ⟨18, _⟩ => ⟨S4x8192x512, .f32⟩
  | .hbm, ⟨19, _⟩ => ⟨S_, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S_, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x512, .f32⟩
  | .hbm, ⟨46, _⟩ => ⟨S4x8192x512, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x512, .f32⟩
  | .hbm, ⟨52, _⟩ => ⟨S4x8192x512, .f32⟩
  | .hbm, ⟨53, _⟩ => ⟨S1x1x512, .f32⟩
  | .hbm, ⟨54, _⟩ => ⟨S4x8192x512, .f32⟩
  | .hbm, ⟨55, _⟩ => ⟨S4x8192x512, .f32⟩
  | .hbm, ⟨56, _⟩ => ⟨S1x1x512, .f32⟩
  | .hbm, ⟨57, _⟩ => ⟨S4x8192x512, .f32⟩
  | .hbm, ⟨58, _⟩ => ⟨S4x8192x512, .f32⟩
  | .hbm, ⟨59, _⟩ => ⟨S4x64x128x8x64, .f32⟩
  | .hbm, ⟨60, _⟩ => ⟨S_, .f32⟩
  | .hbm, ⟨61, _⟩ => ⟨S128x128, .f32⟩
  | .hbm, ⟨62, _⟩ => ⟨S128x128, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S_, .f32⟩
  | .hbm, ⟨69, _⟩ => ⟨S128x128, .f32⟩
  | .hbm, ⟨70, _⟩ => ⟨S128x128, .f32⟩
  | .hbm, ⟨71, _⟩ => ⟨S8x128x128, .f32⟩
  | .hbm, ⟨72, _⟩ => ⟨S1x128x128, .f32⟩
  | .hbm, ⟨73, _⟩ => ⟨S8x128x128, .f32⟩
  | .hbm, ⟨74, _⟩ => ⟨S8x128x128, .f32⟩
  | .hbm, ⟨75, _⟩ => ⟨S8x4x64x64x128, .f32⟩
  | .hbm, ⟨76, _⟩ => ⟨S4x64x128x8x64, .f32⟩
  | .hbm, ⟨77, _⟩ => ⟨S8x128, .f32⟩
  | .hbm, ⟨78, _⟩ => ⟨S128x8, .f32⟩
  | .hbm, ⟨79, _⟩ => ⟨S1x1x128x8x1, .f32⟩
  | .hbm, ⟨80, _⟩ => ⟨S4x64x128x8x64, .f32⟩
  | .hbm, ⟨81, _⟩ => ⟨S4x64x128x8x64, .f32⟩
  | .hbm, ⟨82, _⟩ => ⟨S4x8192x512, .f32⟩
  | .hbm, ⟨83, _⟩ => ⟨S4x8192x512, .f32⟩
  | .hbm, ⟨84, _⟩ => ⟨S512, .f32⟩
  | .hbm, ⟨85, _⟩ => ⟨S4x8192x512, .f32⟩
  | .hbm, ⟨86, _⟩ => ⟨S_, .f32⟩
  | .hbm, ⟨87, _⟩ => ⟨S4x8192, .f32⟩
  | .hbm, ⟨88, _⟩ => ⟨S4x8192x1, .f32⟩
  | .hbm, ⟨89, _⟩ => ⟨S_, .f32⟩
  | .hbm, ⟨90, _⟩ => ⟨S4x8192x1, .f32⟩
  | .hbm, ⟨91, _⟩ => ⟨S4x8192x1, .f32⟩
  | .hbm, ⟨92, _⟩ => ⟨S_, .f32⟩
  | .hbm, ⟨93, _⟩ => ⟨S4x8192x1, .f32⟩
  | .hbm, ⟨94, _⟩ => ⟨S4x8192x1, .f32⟩
  | .hbm, ⟨95, _⟩ => ⟨S4x8192x1, .f32⟩
  | .hbm, ⟨96, _⟩ => ⟨S4x8192x512, .f32⟩
  | .hbm, ⟨97, _⟩ => ⟨S4x8192x512, .f32⟩
  | .hbm, ⟨98, _⟩ => ⟨S1x1x512, .f32⟩
  | .hbm, ⟨99, _⟩ => ⟨S4x8192x512, .f32⟩
  | .hbm, ⟨100, _⟩ => ⟨S4x8192x512, .f32⟩
  | .hbm, ⟨101, _⟩ => ⟨S32768x512, .f32⟩
  | .hbm, ⟨102, _⟩ => ⟨S32768x512, .bf16⟩
  | _, _ => ⟨S32768x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_cst : Ref sig .tc := ⟨.hbm, 68, rfl⟩
abbrev main_call0_v5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Proof.AttnIdeal.Step.lean ====
/-
  One trip of the attention kernel's loop as a pure function, and the loop as its iteration.

  A trip at the bound `hi` reads four tiles of 128 keys and four of 128 values below it, and rewrites the two scratch
  arrays head by head: `R` (the running sums) and `A` (the weighted values).  The loop's bound is `256 * n`, and each trip takes it two
  steps of 256 down.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

noncomputable section

namespace Cert.Proof.AttnIdeal

open Cert.KernelIdeal Cert.KernelIdeal.Gen
open Idealize.ShloMosaic Idealize.ShloMosaic.TcCoe

variable {F : FTy → Type} [FloatOps F] [Named F]

/-! ### The boxes a trip reads and writes -/

/-- Head 0's and head 1's half of a scratch array. -/
abbrev rH0 : Rect S2x256x128 := Rect.unit (s := S2x256x128) ![0, 0, 0] S1x256x128.size inb_S2x256x128_S1x256x128_0_0_0
abbrev rH1 : Rect S2x256x128 := Rect.unit (s := S2x256x128) ![1, 0, 0] S1x256x128.size inb_S2x256x128_S1x256x128_1_0_0

/-- The four tiles of a trip at the bound `hi`. -/
abbrev rK0 (hi : BitVec 32) (h : k0_chk1 hi) : Rect S1x8192x128 := Rect.unit (s := S1x8192x128) (k0_off1 hi 0#32) S1x128x128.size (k0_off1_inb hi h 0)
abbrev rK1 (hi : BitVec 32) (h : k0_chk1 hi) : Rect S1x8192x128 := Rect.unit (s := S1x8192x128) (k0_off1 hi 128#32) S1x128x128.size (k0_off1_inb hi h 1)
abbrev rK2 (hi : BitVec 32) (h : k0_chk1 hi) : Rect S1x8192x128 := Rect.unit (s := S1x8192x128) (k0_off1 hi 256#32) S1x128x128.size (k0_off1_inb hi h 2)
abbrev rK3 (hi : BitVec 32) (h : k0_chk1 hi) : Rect S1x8192x128 := Rect.unit (s := S1x8192x128) (k0_off1 hi 384#32) S1x128x128.size (k0_off1_inb hi h 3)

/-! ### A trip's values, head by head -/

section Trip

variable (q : FVec F S256x128 .bf16) (w : FVec F S256x256 .bf16) (m0 m1 m2 m3 : IVec S256x128 1)
  (k0 k1 k2 k3 v0 v1 v2 v3 : Vec F S1x128x128 .bf16) (r a : Vec F S1x256x128 .f32)

/-- Head 0's sums over tile 0, over tile 1, and the running sum before tile 1's weights. -/
def sum00 : FVec F S256x256 .f32 := k0_pay21 w m0 (k0_pay17 q k0) (k0_pay18 q k0) (k0_pay20 (F := F))
def sum01 : FVec F S256x256 .f32 := k0_pay25 q w m1 k1
def sum02 : FVec F S256x256 .f32 := k0_pay30 w m2 (k0_pay26 q k2) (k0_pay27 q k2)
def run02 : FVec F S256x128 .f32 := k0_pay40 w (sum02 q w m2 k2) (k0_pay34 q m3 k3) (k0_pay35 q m3 k3) r

/-- Head 0: the running sum after the trip, as a vector and as stored, and the weighted values after it. -/
def run0 : FVec F S256x128 .f32 := k0_pay45 (sum00 q w m0 k0) (sum01 q w m1 k1) (run02 q w m2 m3 k2 k3 r)
def newR0 : FVec F S1x256x128 .f32 := k0_pay47 (sum00 q w m0 k0) (sum01 q w m1 k1) (run02 q w m2 m3 k2 k3 r)
def newA0 : FVec F S1x256x128 .f32 :=
  k0_pay46 m0 m1 (k0_pay19 q k0) (sum00 q w m0 k0) (sum01 q w m1 k1)
    (k0_pay39 w m2 m3 (k0_pay29 (k0_pay26 q k2) (k0_pay27 q k2)) (sum02 q w m2 k2) (k0_pay33 q k3) (k0_pay34 q m3 k3) (k0_pay35 q m3 k3) r v3 v2)
    (run02 q w m2 m3 k2 k3 r) (k0_pay41 v1)
    (k0_pay42 w (k0_pay24 q k1) (sum01 q w m1 k1) (sum02 q w m2 k2) (k0_pay34 q m3 k3) (k0_pay35 q m3 k3) r) (k0_pay43 (F := F)) v0 a

/-- The same for head 1. -/
def sum10 : FVec F S256x256 .f32 := k0_pay52 w m0 (k0_pay48 q k0) (k0_pay49 q k0)
def sum11 : FVec F S256x256 .f32 := k0_pay56 w q m1 k1
def sum12 : FVec F S256x256 .f32 := k0_pay60 w q m2 k2
def run12 : FVec F S256x128 .f32 :=
  k0_pay69 w m3 (sum12 q w m2 k2) (k0_pay62 q k3) (k0_pay64 q k3) (Scalar.ofBits .f32 0x00000000#32) r
def run1 : FVec F S256x128 .f32 := k0_pay71 (sum10 q w m0 k0) (sum11 q w m1 k1) (run12 q w m2 m3 k2 k3 r)
def newR1 : FVec F S1x256x128 .f32 := k0_pay73 (sum10 q w m0 k0) (sum11 q w m1 k1) (run12 q w m2 m3 k2 k3 r)
def newA1 : FVec F S1x256x128 .f32 :=
  k0_pay72 m0 m1 (k0_pay51 (k0_pay48 q k0) (k0_pay49 q k0)) (sum10 q w m0 k0) (k0_pay55 q k1) (sum11 q w m1 k1)
    (k0_pay68 w m2 m3 (k0_pay59 q k2) (sum12 q w m2 k2) (k0_pay62 q k3) (k0_pay63 q k3) (k0_pay64 q k3) (Scalar.ofBits .f32 0x00000000#32) r v3 v2)
    (run12 q w m2 m3 k2 k3 r) v1 v0 a

end Trip

/-! ### The trip and the loop -/

section Loop

variable (q8 q9 : FVec F S256x128 .bf16) (w : FVec F S256x256 .bf16) (v13 v14 : IVec S256x128 32)
  (K V : Vec F S1x8192x128 .bf16)

/-- The running sums of head 0 and head 1 after a trip at the bound `hi`, from the scratch before it. -/
def tripRun0 (hi : BitVec 32) (h : k0_chk1 hi) (R : Vec F S2x256x128 .f32) : FVec F S256x128 .f32 :=
  run0 q8 w (k0_pay13 v13 v14 hi) (k0_pay14 v13 v14 hi) (k0_pay15 v13 v14 hi) (k0_pay16 v13 v14 hi)
    (View.ld K (rK0 hi h)) (View.ld K (rK1 hi h)) (View.ld K (rK2 hi h)) (View.ld K (rK3 hi h)) (View.ld R rH0)
def tripRun1 (hi : BitVec 32) (h : k0_chk1 hi) (R : Vec F S2x256x128 .f32) : FVec F S256x128 .f32 :=
  run1 q9 w (k0_pay13 v13 v14 hi) (k0_pay14 v13 v14 hi) (k0_pay15 v13 v14 hi) (k0_pay16 v13 v14 hi)
    (View.ld K (rK0 hi h)) (View.ld K (rK1 hi h)) (View.ld K (rK2 hi h)) (View.ld K (rK3 hi h)) (View.ld R rH1)

/-- The running sums' array after a trip. -/
def tripR (hi : BitVec 32) (h : k0_chk1 hi) (R : Vec F S2x256x128 .f32) : Vec F S2x256x128 .f32 :=
  View.canon (Val := Elt F) [
    ⟨rH1, newR1 q9 w (k0_pay13 v13 v14 hi) (k0_pay14 v13 v14 hi) (k0_pay15 v13 v14 hi) (k0_pay16 v13 v14 hi)
      (View.ld K (rK0 hi h)) (View.ld K (rK1 hi h)) (View.ld K (rK2 hi h)) (View.ld K (rK3 hi h)) (View.ld R rH1)⟩,
    ⟨rH0, newR0 q8 w (k0_pay13 v13 v14 hi) (k0_pay14 v13 v14 hi) (k0_pay15 v13 v14 hi) (k0_pay16 v13 v14 hi)
      (View.ld K (rK0 hi h)) (View.ld K (rK1 hi h)) (View.ld K (rK2 hi h)) (View.ld K (rK3 hi h)) (View.ld R rH0)⟩]

/-- The weighted values' array after a trip. -/
def tripA (hi : BitVec 32) (h : k0_chk1 hi) (R A : Vec F S2x256x128 .f32) : Vec F S2x256x128 .f32 :=
  View.canon (Val := Elt F) [
    ⟨rH1, newA1 q9 w (k0_pay13 v13 v14 hi) (k0_pay14 v13 v14 hi) (k0_pay15 v13 v14 hi) (k0_pay16 v13 v14 hi)
      (View.ld K (rK0 hi h)) (View.ld K (rK1 hi h)) (View.ld K (rK2 hi h)) (View.ld K (rK3 hi h))
      (View.ld V (rK0 hi h)) (View.ld V (rK1 hi h)) (View.ld V (rK2 hi h)) (View.ld V (rK3 hi h)) (View.ld R rH1) (View.ld A rH1)⟩,
    ⟨rH0, newA0 q8 w (k0_pay13 v13 v14 hi) (k0_pay14 v13 v14 hi) (k0_pay15 v13 v14 hi) (k0_pay16 v13 v14 hi)
      (View.ld K (rK0 hi h)) (View.ld K (rK1 hi h)) (View.ld K (rK2 hi h)) (View.ld K (rK3 hi h))
      (View.ld V (rK0 hi h)) (View.ld V (rK1 hi h)) (View.ld V (rK2 hi h)) (View.ld V (rK3 hi h)) (View.ld R rH0) (View.ld A rH0)⟩]

/-- The bound `256 * n` as the kernel's word. -/
abbrev hiW (n : ℕ) : BitVec 32 := BitVec.ofNat 32 (256 * n)

/-- The loop's test at the bound `hi`, the largest running sum being `cm`. -/
def goes (hi : BitVec 32) (cm : F .f32) : Prop :=
  Scalar.andi (Scalar.cmpi .sgt hi 0#32) (Scalar.cmpf .ogt cm (Named.named κ "exp_zero_below" 0xC2DC0000#32)) = 1#1

instance (hi : BitVec 32) (cm : F .f32) : Decidable (goes hi cm) := inferInstanceAs (Decidable (_ = _))

/-- Every bound the loop takes passes the kernel's check of its tiles. -/
theorem chk_hi : ∀ n : Fin 33, k0_chk1 (hiW n.val) := by decide +kernel

/-- The next bound is two steps of 256 down, or zero. -/
theorem next_hi : ∀ n : Fin 33, Scalar.maxsi (Scalar.subi (hiW n.val) 512#32) 0#32 = hiW (n.val - 2) := by decide +kernel

/-- The test fails at the bound zero. -/
theorem not_goes_zero (cm : F .f32) : ¬ goes (hiW 0) cm := by
  unfold goes
  rw [show Scalar.cmpi .sgt (hiW 0) 0#32 = 0#1 from by decide]
  generalize Scalar.cmpf .ogt cm _ = b
  revert b; decide

/-- The two scratch arrays after the loop, from the bound `256 * n`, with at most `k` trips to run. -/
def loop : (k n : ℕ) → (cm : F .f32) → (R A : Vec F S2x256x128 .f32) → Vec F S2x256x128 .f32 × Vec F S2x256x128 .f32
  | 0, _, _, R, A => (R, A)
  | k + 1, n, cm, R, A =>
    if h : n < 33 then
      if goes (hiW n) cm then
        loop k (n - 2)
          (k0_pay2 (tripRun0 q8 w v13 v14 K (hiW n) (chk_hi ⟨n, h⟩) R) (tripRun1 q9 w v13 v14 K (hiW n) (chk_hi ⟨n, h⟩) R))
          (tripR q8 q9 w v13 v14 K (hiW n) (chk_hi ⟨n, h⟩) R)
          (tripA q8 q9 w v13 v14 K V (hiW n) (chk_hi ⟨n, h⟩) R A)
      else (R, A)
    else (R, A)

end Loop

/-! ### What the body leaves -/

/-- The output block at the grid point `i`, from the blocks of queries, keys and values. -/
def outBlock (i : grid0.Coords) (Q : Vec F S1x256x128 .bf16) (K V : Vec F S1x8192x128 .bf16) : Vec F S1x256x128 .bf16 :=
  let A := (loop (k0_pay6 Q) (k0_pay7 Q) (k0_pay9 (F := F)) (k0_pay8 i) (iota .tc S256x128 32 [1] iota_S256x128_d1_w32) K V 16 ((i 2).val + 1)
    (Scalar.ofBits .f32 0x00000000#32) (k0_pay10 (F := F)) (k0_pay11 (F := F))).2
  k0_pay1 k0_pay4 (View.ld A rH0) (View.ld A rH1)

end Cert.Proof.AttnIdeal

end
-- ==== Proof.AttnIdeal.Body.lean ====
/-
  The attention kernel's body meets its description: one trip of the loop (`trip_spec`), the loop's label by induction on
  the trips still to run (`loop_spec`), and the whole body at a grid point (`sound_kernel`).
-/
module

public import proofs.«01_k».proof.Proof.AttnIdeal.Step
public import Idealize.ShloMosaic.Lib.Pipeline.Value

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A loop's calls are bounded by the trips still to run. -/
abbrev 𝒱₀ : Variants := Variants.nat

/-- The two halves of a scratch array cover it. -/
theorem cover_halves (p1 p0 : Vec F S1x256x128 .f32) (y : S2x256x128.Idx) :
    ∃ pc ∈ ([⟨rH1, p1⟩, ⟨rH0, p0⟩] : List (View.Piece (Elt F) S2x256x128 .f32)), y ∈ pc.1.set :=
  View.cover_of_tiled [⟨rH1, p1⟩, ⟨rH0, p0⟩] S1x256x128.size (by rfl) y

section Trip

variable (c : Dev nD) (i : grid0.Coords) (v13 v14 : IVec S256x128 32) (arg4 : Memref sig .tc .vmem S1x8192x128 .bf16) (harg4 : arg4.IsWhole)
  (v8 : FVec F S256x128 .bf16) (v26 : FVec F S256x256 .bf16) (arg7 : Memref sig .tc .vmem S2x256x128 .f32) (harg7 : arg7.IsWhole)
  (arg5 : Memref sig .tc .vmem S1x8192x128 .bf16) (harg5 : arg5.IsWhole) (arg8 : Memref sig .tc .vmem S2x256x128 .f32) (harg8 : arg8.IsWhole)
  (v9 : FVec F S256x128 .bf16) (K V : Vec F S1x8192x128 .bf16)

set_option maxHeartbeats 4000000 in
/-- One trip: the body of the loop at the bound `hi`. -/
theorem trip_spec (ob : Option ℕ) (E : Set ℕ) (hi : BitVec 32) (h : k0_chk1 hi) (cm : F .f32) (R A : Vec F S2x256x128 .f32)
    (Q : (Σ' (v49 : BitVec 32) (v240 : FVec F S256x128 .f32), FVec F S256x128 .f32) → sProp 𝕄) :
    iprop(owns (c : Thread nD τ) arg4 fullShare K ∗ owns (c : Thread nD τ) arg5 fullShare V
        ∗ owns (c : Thread nD τ) arg7 fullShare R ∗ owns (c : Thread nD τ) arg8 fullShare A
        ∗ (iprop(owns (c : Thread nD τ) arg4 fullShare K ∗ owns (c : Thread nD τ) arg5 fullShare V
            ∗ owns (c : Thread nD τ) arg7 fullShare (tripR v8 v9 v26 v13 v14 K hi h R)
            ∗ owns (c : Thread nD τ) arg8 fullShare (tripA v8 v9 v26 v13 v14 K V hi h R A))
          -∗ ∀ r, ⌜r = ⟨Scalar.maxsi (Scalar.subi hi 512#32) 0#32, tripRun0 v8 v26 v13 v14 K hi h R, tripRun1 v9 v26 v13 v14 K hi h R⟩⌝ -∗ Q r))
      ⊢ wp frame (wpE (defs₀ (F := F)) 𝒱₀ c ob) E
          (k0_part10 i v13 v14 arg4 harg4 v8 v26 arg7 harg7 arg5 harg5 arg8 harg8 v9 hi cm) Q := by
  simp only [k0_part10_eq_skeleton]; unfold k0_part10_skel
  simp only [k0_part2_eq_skeleton, k0_part3_eq_skeleton, k0_part4_eq_skeleton, k0_part5_eq_skeleton, k0_part6_eq_skeleton,
    k0_part7_eq_skeleton, k0_part8_eq_skeleton, k0_part9_eq_skeleton]
  unfold owns
  iintro ⟨⟨%f4, %hf4, H4⟩, ⟨%f5, %hf5, H5⟩, ⟨%f7, %hf7, H7⟩, ⟨%f8, %hf8, H8⟩, Hk⟩
  subst hf4 hf5 hf7 hf8
  sl_exec
  sl_step
  iapply Hk $$ [H4 H5 H7 H8]
  rotate_left
  · ipureintro; rfl
  isplitl [H4]
  · iexists f4; isplitr; · ipureintro; rfl
    iexact H4
  isplitl [H5]
  · iexists f5; isplitr; · ipureintro; rfl
    iexact H5
  isplitl [H7]
  · iexists _; isplitr
    swap; · iexact H7
    ipureintro
    exact View.read_writes_eq_canon _ _ _ (cover_halves _ _)
  iexists _; isplitr
  swap; · iexact H8
  ipureintro
  exact View.read_writes_eq_canon _ _ _ (cover_halves _ _)

/-! ### The loop's label -/

/-- What the label's function holds: the blocks of keys and values, the running sums and the weighted values. -/
def held (R A : Vec F S2x256x128 .f32) : sProp 𝕄 :=
  iprop(owns (c : Thread nD τ) arg4 fullShare K ∗ owns (c : Thread nD τ) arg5 fullShare V
    ∗ owns (c : Thread nD τ) arg7 fullShare R ∗ owns (c : Thread nD τ) arg8 fullShare A)

/-- The label's specification: the two scratch arrays after the loop, whatever pair of words it returns. -/
def spec (R A : Vec F S2x256x128 .f32) (S : Vec F S2x256x128 .f32 × Vec F S2x256x128 .f32) : sWPT 𝕄 (BitVec 32 × F .f32) := do
  sWPT.consume (held c arg4 arg7 arg5 arg8 K V R A)
  let r ← sWPT.arbitrary
  sWPT.produce (held c arg4 arg7 arg5 arg8 K V S.1 S.2)
  pure r

theorem spec_apply (R A : Vec F S2x256x128 .f32) (S : Vec F S2x256x128 .f32 × Vec F S2x256x128 .f32) (Q : BitVec 32 × F .f32 → sProp 𝕄) :
    spec c arg4 arg7 arg5 arg8 K V R A S Q
      = iprop(held c arg4 arg7 arg5 arg8 K V R A ∗ ∀ r : BitVec 32 × F .f32, (held c arg4 arg7 arg5 arg8 K V S.1 S.2 -∗ Q r)) := rfl

set_option maxHeartbeats 1000000 in
/-- The label's body meets its specification, by induction on the trips it may still run. -/
theorem loop_spec (E : Set ℕ) : ∀ (k n : ℕ), n ≤ 2 * k → n < 33 → ∀ (cm : F .f32) (R A : Vec F S2x256x128 .f32) (Q : BitVec 32 × F .f32 → sProp 𝕄),
    spec c arg4 arg7 arg5 arg8 K V R A (loop v8 v9 v26 v13 v14 K V k n cm R A) Q
      ⊢ wp frame (wpE (defs₀ (F := F)) 𝒱₀ (c : Thread nD τ) (some k)) E
          (defs₀ (F := F) .tc 1 ⟨i, v13, v14, arg4, harg4, v8, v26, arg7, harg7, arg5, harg5, arg8, harg8, v9, hiW n, cm⟩) Q := by
  intro k
  induction k with
  | zero =>
    intro n hn hn' cm R A Q
    obtain rfl : n = 0 := by omega
    rw [spec_apply]
    show _ ⊢ wp frame (wpE (defs₀ (F := F)) 𝒱₀ (c : Thread nD τ) (some 0)) E
      (cc0_while1 i v13 v14 arg4 harg4 v8 v26 arg7 harg7 arg5 harg5 arg8 harg8 v9 (hiW 0) cm) Q
    simp only [cc0_while1_eq_skeleton]; unfold cc0_while1_skel
    have htest := not_goes_zero cm
    unfold goes at htest
    simp only [htest, ↓reduceIte, Prog.pure_eq_ret]
    iintro ⟨H, Hk⟩
    rw [wp_ret]; imodintro
    iapply Hk
    simp only [loop]; iexact H
  | succ k ih =>
    intro n hn hn' cm R A Q
    rw [spec_apply]
    show _ ⊢ wp frame (wpE (defs₀ (F := F)) 𝒱₀ (c : Thread nD τ) (some (k + 1))) E
      (cc0_while1 i v13 v14 arg4 harg4 v8 v26 arg7 harg7 arg5 harg5 arg8 harg8 v9 (hiW n) cm) Q
    simp only [cc0_while1_eq_skeleton]; unfold cc0_while1_skel
    by_cases htest : goes (hiW n) cm
    · have hloop : loop v8 v9 v26 v13 v14 K V (k + 1) n cm R A = loop v8 v9 v26 v13 v14 K V k (n - 2)
          (k0_pay2 (tripRun0 v8 v26 v13 v14 K (hiW n) (chk_hi ⟨n, hn'⟩) R) (tripRun1 v9 v26 v13 v14 K (hiW n) (chk_hi ⟨n, hn'⟩) R))
          (tripR v8 v9 v26 v13 v14 K (hiW n) (chk_hi ⟨n, hn'⟩) R)
          (tripA v8 v9 v26 v13 v14 K V (hiW n) (chk_hi ⟨n, hn'⟩) R A) := by
        rw [loop, dif_pos hn', if_pos htest]
      rw [hloop]
      unfold goes at htest
      simp only [htest, ↓reduceIte]
      rw [wp_bind]
      unfold held
      iintro ⟨⟨H4, H5, H7, H8⟩, Hk⟩
      iapply (trip_spec c i v13 v14 arg4 harg4 v8 v26 arg7 harg7 arg5 harg5 arg8 harg8 v9 K V (some (k + 1)) E (hiW n) (chk_hi ⟨n, hn'⟩) cm R A _)
      isplitl [H4]; · iexact H4
      isplitl [H5]; · iexact H5
      isplitl [H7]; · iexact H7
      isplitl [H8]; · iexact H8
      iintro ⟨H4, H5, H7, H8⟩ %r %hr
      subst hr
      simp only [Prog.lift]
      rw [next_hi ⟨n, hn'⟩]
      iapply (wp_call_spec 𝒱₀ (c : Thread nD τ) (some (k + 1)) E (spec c arg4 arg7 arg5 arg8 K V _ _ (loop v8 v9 v26 v13 v14 K V k (n - 2)
          (k0_pay2 (tripRun0 v8 v26 v13 v14 K (hiW n) (chk_hi ⟨n, hn'⟩) R) (tripRun1 v9 v26 v13 v14 K (hiW n) (chk_hi ⟨n, hn'⟩) R))
          (tripR v8 v9 v26 v13 v14 K (hiW n) (chk_hi ⟨n, hn'⟩) R)
          (tripA v8 v9 v26 v13 v14 K V (hiW n) (chk_hi ⟨n, hn'⟩) R A))) k
        (fun u hu => by cases hu; exact Nat.lt_succ_self k) (ih (n - 2) (by omega) (by omega) _ _ _))
      rw [spec_apply]; unfold held
      isplitl [H4 H5 H7 H8]
      · isplitl [H4]; · iexact H4
        isplitl [H5]; · iexact H5
        isplitl [H7]; · iexact H7
        iexact H8
      iintro %r H
      rw [wp_ret]; imodintro
      iapply Hk
      iexact H
    · have hloop : loop v8 v9 v26 v13 v14 K V (k + 1) n cm R A = (R, A) := by
        rw [loop, dif_pos hn', if_neg htest]
      rw [hloop]
      unfold goes at htest
      simp only [htest, ↓reduceIte, Prog.pure_eq_ret]
      iintro ⟨H, Hk⟩
      rw [wp_ret]; imodintro
      iapply Hk
      iexact H

end Trip

/-! ### The body -/

section Body

variable (c : Dev nD) (i : grid0.Coords) (arg3 : Memref sig .tc .vmem S1x256x128 .bf16) (harg3 : arg3.IsWhole)
  (arg4 : Memref sig .tc .vmem S1x8192x128 .bf16) (harg4 : arg4.IsWhole) (arg5 : Memref sig .tc .vmem S1x8192x128 .bf16) (harg5 : arg5.IsWhole)
  (arg6 : Memref sig .tc .vmem S1x256x128 .bf16) (harg6 : arg6.IsWhole) (arg7 : Memref sig .tc .vmem S2x256x128 .f32) (harg7 : arg7.IsWhole)
  (arg8 : Memref sig .tc .vmem S2x256x128 .f32) (harg8 : arg8.IsWhole)
  (Qb : Vec F S1x256x128 .bf16) (K V : Vec F S1x8192x128 .bf16)

/-- The whole of a scratch array, as a box. -/
abbrev rAll : Rect S2x256x128 := Rect.unit (s := S2x256x128) ![0, 0, 0] S2x256x128.size inb_S2x256x128_S2x256x128_0_0_0

theorem cover_all (p : Vec F S2x256x128 .f32) (y : S2x256x128.Idx) :
    ∃ pc ∈ ([⟨rAll, p⟩] : List (View.Piece (Elt F) S2x256x128 .f32)), y ∈ pc.1.set :=
  View.cover_of_tiled [⟨rAll, p⟩] S2x256x128.size (by rfl) y

theorem canon_all (p : Vec F S2x256x128 .f32) : View.canon ([⟨rAll, p⟩] : List (View.Piece (Elt F) S2x256x128 .f32)) = p :=
  View.canon_unit_zero (by funext a; fin_cases a <;> rfl) _ _

/-- The output block's box. -/
abbrev rOut : Rect S1x256x128 := Rect.unit (s := S1x256x128) ![0, 0, 0] S1x256x128.size inb_S1x256x128_S1x256x128_0_0_0

theorem cover_out (p : Vec F S1x256x128 .bf16) (y : S1x256x128.Idx) :
    ∃ pc ∈ ([⟨rOut, p⟩] : List (View.Piece (Elt F) S1x256x128 .bf16)), y ∈ pc.1.set :=
  View.cover_of_tiled [⟨rOut, p⟩] S1x256x128.size (by rfl) y

theorem canon_out (p : Vec F S1x256x128 .bf16) : View.canon ([⟨rOut, p⟩] : List (View.Piece (Elt F) S1x256x128 .bf16)) = p :=
  View.canon_unit_zero (by funext a; fin_cases a <;> rfl) _ _

theorem ld_out (X : Vec F S1x256x128 .bf16) : View.ld X rOut = X :=
  View.ld_unit_zero (by funext a; fin_cases a <;> rfl) _ _

/-- The body before the loop: the query block read, the scratch zeroed. -/
theorem part1_spec (E : Set ℕ) (Q : (Σ' (arg2 : BitVec 32) (v6 : IVec S256x128 1) (v8 : FVec F S256x128 .bf16) (v9 : FVec F S256x128 .bf16) (v13 : IVec S256x128 32) (v14 : IVec S256x128 32) (v26 : FVec F S256x256 .bf16), BitVec 32) → sProp 𝕄) :
    iprop(owns (c : Thread nD τ) arg3 fullShare Qb ∗ (∃ d, owns (c : Thread nD τ) arg7 fullShare d) ∗ (∃ d, owns (c : Thread nD τ) arg8 fullShare d)
        ∗ (iprop(owns (c : Thread nD τ) arg3 fullShare Qb ∗ owns (c : Thread nD τ) arg7 fullShare (k0_pay10 (F := F))
            ∗ owns (c : Thread nD τ) arg8 fullShare (k0_pay11 (F := F)))
          -∗ ∀ r, ⌜r = ⟨BitVec.ofNat 32 (i 2).val, k0_pay4, k0_pay6 Qb, k0_pay7 Qb, k0_pay8 i, iota .tc S256x128 32 [1] iota_S256x128_d1_w32, k0_pay9 (F := F), 1#32⟩⌝ -∗ Q r))
      ⊢ wp frame (wpE (defs₀ (F := F)) 𝒱₀ c none) E
          (k0_part1 i arg3 harg3 arg4 harg4 arg5 harg5 arg6 harg6 arg7 harg7 arg8 harg8) Q := by
  simp only [k0_part1_eq_skeleton]; unfold k0_part1_skel
  unfold owns
  iintro ⟨⟨%f3, %hf3, H3⟩, ⟨%d7, %f7, -, H7⟩, ⟨%d8, %f8, -, H8⟩, Hk⟩
  subst hf3
  sl_exec
  sl_step
  iapply Hk $$ [H3 H7 H8]
  rotate_left
  · ipureintro
    have e := ld_out (arg3.view.read (Elt F) f3)
    first
      | rfl
      | (conv_rhs => rw [← e])
        rfl
  isplitl [H3]
  · iexists f3; isplitr; · ipureintro; rfl
    iexact H3
  isplitl [H7]
  · iexists _; isplitr
    swap; · iexact H7
    ipureintro
    exact (View.read_writes_eq_canon _ _ _ (cover_all _)).trans (canon_all _)
  iexists _; isplitr
  swap; · iexact H8
  ipureintro
  exact (View.read_writes_eq_canon _ _ _ (cover_all _)).trans (canon_all _)

/-- The bound the loop starts from. -/
theorem start_hi : ∀ n : Fin 32, Scalar.muli (Scalar.addi (BitVec.ofNat 32 n.val) 1#32) 256#32 = hiW (n.val + 1) := by decide +kernel

set_option maxHeartbeats 2000000 in
/-- The kernel body at the grid point `i`. -/
theorem sound_kernel (E : Set ℕ) (Q : PUnit → sProp 𝕄) :
    iprop(owns (c : Thread nD τ) arg3 fullShare Qb ∗ owns (c : Thread nD τ) arg4 fullShare K ∗ owns (c : Thread nD τ) arg5 fullShare V
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare Qb ∗ owns (c : Thread nD τ) arg4 fullShare K ∗ owns (c : Thread nD τ) arg5 fullShare V
            ∗ owns (c : Thread nD τ) arg6 fullShare (outBlock i Qb K V) ∗ (∃ d, owns (c : Thread nD τ) arg7 fullShare d)
            ∗ (∃ d, owns (c : Thread nD τ) arg8 fullShare d)) -∗ Q ⟨⟩))
      ⊢ wp frame (wpE (defs₀ (F := F)) 𝒱₀ c none) E
          (cc0_sb_attention i arg3 harg3 arg4 harg4 arg5 harg5 arg6 harg6 arg7 harg7 arg8 harg8) Q := by
  simp only [cc0_sb_attention_eq_skeleton]; unfold cc0_sb_attention_skel
  rw [wp_bind]
  iintro ⟨H3, H4, H5, H6, H7, H8, Hk⟩
  iapply (part1_spec c i arg3 harg3 arg4 harg4 arg5 harg5 arg6 harg6 arg7 harg7 arg8 harg8 Qb E _)
  isplitl [H3]; · iexact H3
  isplitl [H7]; · iexact H7
  isplitl [H8]; · iexact H8
  iintro ⟨H3, H7, H8⟩ %r %hr
  subst hr
  simp only [Prog.lift, Prog.bind_op, Prog.bind_ret, Prog.pure_eq_ret]
  have hi2 : (i 2).val < 32 := (i 2).isLt
  rw [start_hi ⟨(i 2).val, hi2⟩]
  iapply (wp_call_spec 𝒱₀ (c : Thread nD τ) none E (spec c arg4 arg7 arg5 arg8 K V (k0_pay10 (F := F)) (k0_pay11 (F := F))
      (loop (k0_pay6 Qb) (k0_pay7 Qb) (k0_pay9 (F := F)) (k0_pay8 i) (iota .tc S256x128 32 [1] iota_S256x128_d1_w32) K V 16 ((i 2).val + 1)
        (Scalar.ofBits .f32 0x00000000#32) (k0_pay10 (F := F)) (k0_pay11 (F := F)))) 16
    (fun u hu => nomatch hu) (loop_spec c i _ _ arg4 harg4 _ _ arg7 harg7 arg5 harg5 arg8 harg8 _ K V E 16 ((i 2).val + 1) (by omega) (by omega) _ _ _))
  rw [spec_apply]; unfold held
  isplitl [H4 H5 H7 H8]
  · isplitl [H4]; · iexact H4
    isplitl [H5]; · iexact H5
    isplitl [H7]; · iexact H7
    iexact H8
  iintro %r ⟨H4, H5, H7, H8⟩
  generalize hS : loop (k0_pay6 Qb) (k0_pay7 Qb) (k0_pay9 (F := F)) (k0_pay8 i) (iota .tc S256x128 32 [1] iota_S256x128_d1_w32) K V 16 ((i 2).val + 1)
        (Scalar.ofBits .f32 0x00000000#32) (k0_pay10 (F := F)) (k0_pay11 (F := F)) = S
  obtain ⟨S1, S2⟩ := S
  have hout : outBlock i Qb K V = k0_pay1 k0_pay4 (View.ld S2 rH0) (View.ld S2 rH1) := by
    unfold outBlock; rw [hS]
  rw [hout]
  clear hout hS
  unfold owns
  icases H8 with ⟨%f8, %hf8, H8⟩
  icases H6 with ⟨%d6, %f6, -, H6⟩
  dsimp only at hf8
  subst hf8
  sl_exec
  sl_step
  iapply Hk
  isplitl [H3]; · iexact H3
  isplitl [H4]; · iexact H4
  isplitl [H5]; · iexact H5
  isplitl [H6]
  · iexists _; isplitr
    swap; · iexact H6
    ipureintro
    exact (View.read_writes_eq_canon _ _ _ (cover_out _)).trans (canon_out _)
  isplitl [H7]; · iexists _; iexact H7
  iexists _; iexists f8; isplitr; · ipureintro; rfl
  iexact H8

end Body

end Cert.Proof.AttnIdeal

end
-- ==== Proof.AttnIdeal.Run.lean ====
/-
  The attention call's run: the pipeline's proof data over the block each grid point leaves (`outBlock`), the body's
  obligation, the run, the frame, and the result array block by block (`blocks3`).
-/
module

public import proofs.«01_k».proof.Proof.AttnIdeal.Body

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the region is entered: as launched, no host operation coming before it. -/
abbrev V (c : Dev nD) (b : Ref sig .tc) : Buf (Elt F) ((c : Thread nD τ).loc b) := m ((c.tc : Thread nD τ).loc b)

theorem hmain (𝒱 : Variants) : Pipeline.HMain (Ix := Unit) (Name := ℕ) (U := UR sig nD τ) (Lvl := ℕ) cfgs 0 defs₀ 𝒱 m (main (F := F)) (V m) :=
  Pipeline.hmain_region cfgs 0 defs₀ 𝒱 m main fun c => rfl

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: each input block left in place, the output block at what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) :
    (dats m 0 c).after 3 t = outBlock (grid0.coords t) (iblk m c 0 t) (iblk m c 1 t) (iblk m c 2 t) := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)

/-- What the body is called with at point `t`, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl]
  unfold Pipeline.ΦA
  rw [scopedRest0_eq]
  iintro ⟨⟨⟨⟨%f7, H7⟩, ⟨%f8, H8⟩⟩, Hp⟩, Ho, ⟨%d0, H0⟩, ⟨%d1, H1⟩, ⟨%d2, H2⟩, ⟨%d3, H3⟩⟩
  iapply (sound_kernel c (grid0.coords t) _ _ _ _ _ _ _ _ (Memref.whole cc0_scratch0) _ (Memref.whole cc0_scratch1) _
    (iblk m c 0 t) (iblk m c 1 t) (iblk m c 2 t) Set.univ _)
  simp only [owns_whole_eq]
  isplitl [H0]; · iexact H0
  isplitl [H1]; · iexact H1
  isplitl [H2]; · iexact H2
  isplitl [H3]; · iexists _; iexact H3
  isplitl [H7]; · iexists f7; iexists f7; isplitr; · ipureintro; rfl
                  iexact H7
  isplitl [H8]; · iexists f8; iexists f8; isplitr; · ipureintro; rfl
                  iexact H8
  iintro ⟨H0, H1, H2, H3, ⟨%e7, %g7, -, H7⟩, ⟨%e8, %g8, -, H8⟩⟩
  isplitl [H7 H8 Hp]
  · isplitl [H7 H8]
    · isplitl [H7]
      · iexists g7; iexact H7
      iexists g8; iexact H8
    iexact Hp
  isplitl [Ho]; · iexact Ho
  isplitl [H0]; · iexact H0
  isplitl [H1]; · iexact H1
  isplitl [H2]; · iexact H2
  iexact H3

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem kept (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans (A_eq m c 0))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => kept m r h.1 c, h.2⟩) (run_main_quiescent m ρ)

end Cert.Proof.AttnIdeal

end
-- ==== Proof.AttnIdeal.Blocks.lean ====
/-
  The attention call's result array, block by block: each grid point's block of the final array is what the body leaves there.
-/
module

public import proofs.«01_k».proof.Proof.AttnIdeal.Run

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The result, block by block -/

/-- The grid point that writes a block, from the block's index. -/
theorem point_of_index3 : ∀ t : Fin grid0.N, (win0_3.index t 0) * 128 + (win0_3.index t 2) * 32 + win0_3.index t 1 = t.val := by
  decide +kernel

theorem idx_inj3 (t t' : Fin grid0.N) (h : win0_3.index t = win0_3.index t') : t = t' :=
  Fin.ext ((point_of_index3 t).symm.trans ((congrArg (fun (f : Fin 3 → ℕ) => f 0 * 128 + f 2 * 32 + f 1) h).trans (point_of_index3 t')))

theorem disjoint3 : ∀ t t' : Fin (cfg0 (F := F)).N, ((cfg0 (F := F)).win 3).flush t = true → ((cfg0 (F := F)).win 3).flush t' = true → t ≠ t' →
    Disjoint (((cfg0 (F := F)).win 3).blk t).view.set (((cfg0 (F := F)).win 3).blk t').view.set :=
  fun t t' _ _ hne => ((cfg0 (F := F)).win 3).disjoint_blk fun h => hne (idx_inj3 t t' h)

/-- Block `t` of the final array is what the body leaves at point `t`. -/
theorem blocks3 (c : Dev nD) (t : Fin (cfg0 (F := F)).N) :
    (((cfg0 (F := F)).win 3).blk t).view.read (Elt F) ((dats m 0 c).arrAt 3 (cfg0 (F := F)).N)
      = ((cfg0 (F := F)).win 3).cut (grid0.coords t) (outBlock (grid0.coords t) (iblk m c 0 t) (iblk m c 1 t) (iblk m c 2 t)) := by
  rw [(dats m 0 c).read_blk_arrAt_eq_flushed 3 disjoint3 (cfg0 (F := F)).N t t.isLt (flush0_3 t)]
  show ((cfg0 (F := F)).win 3).cut (grid0.coords t) ((dats m 0 c).after 3 t) = _
  rw [after0_3]

/-- The run with the result array named. -/
theorem run_blocks : θ_run defs (onTc (τ := τ) (main (F := F))) ⟨m, fun _ => 0, ρ⟩ fun r => ∀ c : Dev nD,
      r.2.mem ((c : Thread nD τ).loc (Pipeline.arrRef spec0 3)) = (dats m 0 c).arrAt 3 (cfg0 (F := F)).N
      ∧ r.2.mem ((c : Thread nD τ).loc main_arg0) = m ((c : Thread nD τ).loc main_arg0) :=
  (θ_run defs _ _).mono (fun r h c => ⟨(h c).1 3, kept m r h c⟩) (run_main m ρ)

end Cert.Proof.AttnIdeal

end
-- ==== Proof.Values.Inproj.lean ====
module

public import proofs.«01_k».proof.Proof.Gen.InprojIdeal.Frame
public import proofs.«01_k».proof.Proof.Gen.InprojIdeal.Value
public import proofs.«01_k».proof.Proof.Gen.InprojRefIdeal.Run
public import proofs.«01_k».proof.Defs
public import Idealize.ShloMosaic.Lib.Pipeline.ValueKit
public import Idealize.ShloMosaic.Lib.Pointwise

/-! The input projection: the array the kernel writes, block of 512 rows by block, is the reference's product. -/

@[expose] public section

set_option maxRecDepth 16384

noncomputable section

open Idealize.ShloMosaic Idealize.ShloMosaic.TcCoe Idealize.SL.Sem
open Idealize.ShloMosaic.Pipeline (Dat)

namespace Cert.Proof.InprojValue

open Cert.InprojIdeal Cert.InprojIdeal.Gen

variable (m : (ℓ : Loc nD τ sig) → Buf (Elt Ideal) ℓ)

/-- The reference's product over its two arguments. -/
abbrev goal (x : FVec Ideal Cert.InprojRefIdeal.S4x8192x1024 .f32) (w : FVec Ideal Cert.InprojRefIdeal.S1x1024x2560 .f32) :
    FVec Ideal Cert.InprojRefIdeal.S32768x2560 .bf16 :=
  truncf .bf16 (shapeCast _ (Host.dotGeneral Cert.InprojRefIdeal.dot_S4x8192x1024_S1024x2560_S4x8192x2560_2_0_01_1_n_n none x
    (shapeCast _ w Cert.InprojRefIdeal.Gen.shapeCasts_S1x1024x2560_S1024x2560))
    Cert.InprojRefIdeal.Gen.shapeCasts_S4x8192x2560_S32768x2560) Cert.InprojRefIdeal.Gen.bitsLt_bf16_f32

/-- Where each window's block lies at each of the 64 points. -/
theorem idx : ∀ t : Fin cfg0.N, win0_0.index t = ![t.val, 0]
    ∧ win0_1.index t = ![0, 0]
    ∧ win0_2.index t = ![t.val, 0] :=
  (by decide +kernel : ∀ t : Fin grid0.N, _)

/-- The product of a block, at an index. -/
theorem block_at (x : FVec Ideal S512x1024 .f32) (w : FVec Ideal S1024x2560 .bf16) (r : Fin 512) (l : Fin 2560) :
    k0_pay1 (F := Ideal) x w (ix2 r l) = ∑ k : Fin 1024, x (ix2 r k) * w (ix2 k l) := by
  pointwise [k0_pay1]

theorem goal_at (x : FVec Ideal Cert.InprojRefIdeal.S4x8192x1024 .f32) (w : FVec Ideal Cert.InprojRefIdeal.S1x1024x2560 .f32) (r : Fin 32768) (l : Fin 2560) :
    goal x w (ix2 r l) = ∑ k : Fin 1024, x (ix3 ⟨r.val/8192, by omega⟩ ⟨r.val%8192, by omega⟩ k) * w (ix3 0 k l) := by
  pointwise [goal]

/-- What a point stores at an index of its block is the product at the row that index sits at. -/
theorem point (c : Dev nD) (t : Fin cfg0.N) (r : Fin 512) (l : Fin 2560) (r' : Fin 32768) (hr : r'.val = t.val * 512 + r.val) :
    k0_pay1 (iblk m c 0 t) (iblk m c 1 t) (ix2 r l)
      = goal (m ((c : Thread nD τ).loc main_arg0)) (m ((c : Thread nD τ).loc main_arg1)) (ix2 r' l) := by
  refine (block_at _ _ r l).trans (Eq.trans ?_ (goal_at _ _ r' l).symm)
  blk_point [iblk, V, idx t]

theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t hf y => ?_
  blk_simp; rw [after0_2]; frame_out
  have hN : t.val < 64 := t.isLt
  have h0 : (y 0).val < 512 := (y 0).isLt
  have hy : y = ix2 (y 0) (y 1) := by blk_ext []
  have he : ((cfg0.win 2).blk t).view.emb y = ix2 (⟨t.val * 512 + (y 0).val, by omega⟩ : Fin 32768) (y 1) := by
    blk_ext [idx t]
  rw [he]
  refine (congrArg _ hy).trans (point m c t (y 0) (y 1) _ rfl)

end Cert.Proof.InprojValue

end
-- ==== Proof.Values.Ple.lean ====
module

public import proofs.«01_k».proof.Proof.Gen.PleIdeal.Frame
public import proofs.«01_k».proof.Proof.Gen.PleIdeal.Value
public import proofs.«01_k».proof.Proof.Gen.PleRefIdeal.Run
public import Idealize.ShloMosaic.Lib.Pipeline.ValueKit
public import Idealize.ShloMosaic.Lib.Pointwise

/-! The last projection with its layer norm: the kernel's blocks of 512 rows are the reference's rows. -/

@[expose] public section

set_option maxRecDepth 16384

noncomputable section

open Idealize.ShloMosaic Idealize.ShloMosaic.TcCoe Idealize.SL.Sem
open Idealize.ShloMosaic.Pipeline (Dat)

namespace Cert.Proof.PleValue

section
open Cert.PleRefIdeal Cert.PleRefIdeal.Gen

/-- What the reference normalises: the scaled input plus the gated projection. -/
def mix (a0 : FVec Ideal S32768x1024 .f32) (a1 : FVec Ideal S1x4x8192x256 .f32) (a2 : FVec Ideal S1x1024x1024 .f32) (a3 : FVec Ideal S1x1024 .f32)
   (a4 : FVec Ideal S1x256x1024 .f32) : FVec Ideal S32768x1024 .f32 :=
  have t0 := broadcastInDim S32768x1024 ![] bcast_S_S32768x1024 (constant S_ .f32 0x3F800000#32)
  have t1 := broadcastInDim S32768x1024 ![0, 1] bcast_S1x1024_S32768x1024_0_1 (broadcastInDim S1x1024 ![1] bcast_S1024_S1x1024_1 (shapeCast _ a3 shapeCasts_S1x1024_S1024))
  have t2 := Host.exp (Host.negf (addf (Host.dotGeneral dot_S32768x1024_S1024x1024_S32768x1024_1_0_0_1_n_n none a0 (shapeCast _ a2 shapeCasts_S1x1024x1024_S1024x1024)) t1))
  have t3 := Host.dotGeneral dot_S32768x256_S256x1024_S32768x1024_1_0_0_1_n_n none (shapeCast _ (shapeCast _ a1 shapeCasts_S1x4x8192x256_S4x8192x256) shapeCasts_S4x8192x256_S32768x256) (shapeCast _ a4 shapeCasts_S1x256x1024_S256x1024)
  addf (mulf (broadcastInDim S32768x1024 ![] bcast_S_S32768x1024 (constant S_ .f32 0x3F9837F0#32)) a0) (mulf (Host.divf t0 (addf t0 t2)) t3)

/-- The reference's layer norm of an array of rows. -/
def norm (t4 : FVec Ideal S32768x1024 .f32) (a5 a6 : FVec Ideal S1x1024 .f32) : FVec Ideal S32768x1024 .f32 :=
  have t5 := constant S_ .f32 0x00000000#32
  have t6 := broadcastInDim S32768x1 ![] bcast_S_S32768x1 (constant S_ .f32 0x44800000#32)
  have t7 := broadcastInDim S32768x1024 ![0, 1] bcast_S32768x1_S32768x1024_0_1 (Host.divf (broadcastInDim S32768x1 ![0] bcast_S32768_S32768x1_0 (Host.reduceAdd t4 t5 reducesTo_S32768x1024_S32768_d1 h_S_)) t6)
  have t8 := subf t4 t7
  have t9 := addf (Host.divf (broadcastInDim S32768x1 ![0] bcast_S32768_S32768x1_0 (Host.reduceAdd (mulf t8 t8) t5 reducesTo_S32768x1024_S32768_d1 h_S_)) t6) (broadcastInDim S32768x1 ![] bcast_S_S32768x1 (constant S_ .f32 0x3727C5AC#32))
  have t10 := broadcastInDim S32768x1024 ![0, 1] bcast_S1x1024_S32768x1024_0_1 (broadcastInDim S1x1024 ![1] bcast_S1024_S1x1024_1 (shapeCast _ a5 shapeCasts_S1x1024_S1024))
  have t11 := broadcastInDim S32768x1024 ![0, 1] bcast_S1x1024_S32768x1024_0_1 (broadcastInDim S1x1024 ![1] bcast_S1024_S1x1024_1 (shapeCast _ a6 shapeCasts_S1x1024_S1024))
  addf (mulf (mulf t8 (broadcastInDim S32768x1024 ![0, 1] bcast_S32768x1_S32768x1024_0_1 (Host.rsqrt t9))) t10) t11

theorem result_eq (m) (c) : Cert.PleRefIdeal.Value.res_main_v45 (F := Ideal) m c
    = norm (mix (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg5)) (m ((c.tc : Thread nD τ).loc main_arg6)) := rfl

end

open Cert.PleIdeal Cert.PleIdeal.Gen

/-- A block's row, computed from blocks that hold the reference's operands, is the reference's row. -/
theorem row_eq (x0 : FVec Ideal S512x1024 .f32) (x1 : FVec Ideal S512x256 .f32) (x2 : FVec Ideal S1024x1024 .bf16) (x3 : FVec Ideal S1x1024 .f32)
    (x4 : FVec Ideal S256x1024 .bf16) (x5 x6 : FVec Ideal S1x1024 .f32)
    (a0 : FVec Ideal S32768x1024 .f32) (a1 : FVec Ideal S1x4x8192x256 .f32) (a2 : FVec Ideal S1x1024x1024 .f32) (a3 : FVec Ideal S1x1024 .f32)
    (a4 : FVec Ideal S1x256x1024 .f32) (a5 a6 : FVec Ideal S1x1024 .f32) (r : Fin 512) (r' : Fin 32768) (l : Fin 1024)
    (h0 : ∀ k, x0 (ix2 r k) = a0 (ix2 r' k))
    (h1 : ∀ k, x1 (ix2 r k) = a1 (ix4 0 ⟨r'.val / 8192, by omega⟩ ⟨r'.val % 8192, by omega⟩ k))
    (h2 : ∀ k l, x2 (ix2 k l) = a2 (ix3 0 k l)) (h3 : ∀ l, x3 (ix2 0 l) = a3 (ix2 0 l)) (h4 : ∀ k l, x4 (ix2 k l) = a4 (ix3 0 k l))
    (h5 : ∀ l, x5 (ix2 0 l) = a5 (ix2 0 l)) (h6 : ∀ l, x6 (ix2 0 l) = a6 (ix2 0 l)) :
    k0_pay1 (F := Ideal) (k0_pay2 x5) (k0_pay3 x6) (k0_pay4 x0 x2 x3 x1 x4) (k0_pay5 x0 x2 x3 x1 x4) (ix2 r l)
      = norm (mix a0 a1 a2 a3 a4) a5 a6 (ix2 r' l) := by
  pointwise [k0_pay1, k0_pay2, k0_pay3, k0_pay4, k0_pay5, norm, mix]
  simp only [h0, h1, h2, h3, h4, h5, h6, Ideal.logistic]

variable (m : (ℓ : Loc nD τ sig) → Buf (Elt Ideal) ℓ)

/-- Where each window's block lies at each of the 64 points. -/
theorem idx : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

theorem final (c : Dev nD) : (dats m 0 c).arrAt 7 cfg0.N
    = norm (mix (m ((c : Thread nD τ).loc main_arg0)) (m ((c : Thread nD τ).loc main_arg1)) (m ((c : Thread nD τ).loc main_arg2))
        (m ((c : Thread nD τ).loc main_arg3)) (m ((c : Thread nD τ).loc main_arg4)))
      (m ((c : Thread nD τ).loc main_arg5)) (m ((c : Thread nD τ).loc main_arg6)) := by
  refine (dats m 0 c).arrAt_eq_of_covers 7 _ (by decide +kernel) fun t hf y => ?_
  blk_simp; rw [after0_7]; frame_out
  have hN : t.val < 64 := t.isLt
  have h0 : (y 0).val < 512 := (y 0).isLt
  have hy : y = ix2 (y 0) (y 1) := by blk_ext []
  have he : ((cfg0.win 7).blk t).view.emb y = ix2 (⟨t.val * 512 + (y 0).val, by omega⟩ : Fin 32768) (y 1) := by
    blk_ext [idx t]
  rw [he]
  refine (congrArg _ hy).trans (row_eq _ _ _ _ _ _ _ _ _ _ _ _ _ _ (y 0) ⟨t.val * 512 + (y 0).val, by omega⟩ (y 1) ?_ ?_ ?_ ?_ ?_ ?_ ?_)
  · intro k; blk_point [iblk, V, idx t]
  · intro k; blk_point [iblk, V, idx t]
  · intro k l; blk_point [iblk, V, idx t]
  · intro l; blk_point [iblk, V, idx t]
  · intro k l; blk_point [iblk, V, idx t]
  · intro l; blk_point [iblk, V, idx t]
  · intro l; blk_point [iblk, V, idx t]

end Cert.Proof.PleValue

end
-- ==== Proof.Values.Outproj.lean ====
module

public import proofs.«01_k».proof.Proof.Gen.OutprojIdeal.Frame
public import proofs.«01_k».proof.Proof.Gen.OutprojIdeal.Value
public import proofs.«01_k».proof.Proof.Gen.OutprojRefIdeal.Run
public import Idealize.ShloMosaic.Lib.Pipeline.ValueKit
public import Idealize.ShloMosaic.Lib.Pointwise

/-! The output projection with its layer norm: the kernel's blocks of 512 rows are the reference's rows, and its transposed
   result their transpose. -/

@[expose] public section

set_option maxRecDepth 16384

noncomputable section

open Idealize.ShloMosaic Idealize.ShloMosaic.TcCoe Idealize.SL.Sem
open Idealize.ShloMosaic.Pipeline (Dat)

namespace Cert.Proof.OutprojValue

section
open Cert.OutprojRefIdeal Cert.OutprojRefIdeal.Gen

/-- What the reference normalises: the scaled input plus the projection of the normalised attention beside the gated columns. -/
def mix (a0 a1 : FVec Ideal S32768x512 .bf16) (a2 : FVec Ideal S4x8192x1024 .f32) (a3 : FVec Ideal S1x512 .f32)
    (a4 : FVec Ideal S1x1024x1024 .f32) : FVec Ideal S32768x1024 .f32 :=
  have t0 := extf .f32 a0 bitsLt_bf16_f32
  have t1 := constant S_ .f32 0x00000000#32
  have t2 := Host.divf (broadcastInDim S32768x1 ![0] bcast_S32768_S32768x1_0 (Host.reduceAdd (mulf t0 t0) t1 reducesTo_S32768x512_S32768_d1 h_S_)) (broadcastInDim S32768x1 ![] bcast_S_S32768x1 (constant S_ .f32 0x44000000#32))
  have t3 := broadcastInDim S32768x1 ![] bcast_S_S32768x1 (constant S_ .f32 0x3727C5AC#32)
  have t4 := mulf (mulf t0 (broadcastInDim S32768x512 ![0, 1] bcast_S32768x1_S32768x512_0_1 (Host.rsqrt (addf t2 t3)))) (broadcastInDim S32768x512 ![0, 1] bcast_S1x512_S32768x512_0_1 (broadcastInDim S1x512 ![1] bcast_S512_S1x512_1 (shapeCast _ a3 shapeCasts_S1x512_S512)))
  have t5 := Host.dotGeneral dot_S32768x1024_S1024x1024_S32768x1024_1_0_0_1_n_n none (concatenate S32768x1024 1 [⟨S32768x512, t4 ⟩, ⟨S32768x512, (extf .f32 a1 bitsLt_bf16_f32) ⟩] concatenates_S32768x512_S32768x512_S32768x1024_d1) (shapeCast _ a4 shapeCasts_S1x1024x1024_S1024x1024)
  addf (mulf (broadcastInDim S32768x1024 ![] bcast_S_S32768x1024 (constant S_ .f32 0x3F9837F0#32)) (shapeCast _ a2 shapeCasts_S4x8192x1024_S32768x1024)) t5

/-- The reference's layer norm of an array of rows. -/
def norm (t4 : FVec Ideal S32768x1024 .f32) (a5 a6 : FVec Ideal S1x1024 .f32) : FVec Ideal S32768x1024 .f32 :=
  have t5 := constant S_ .f32 0x00000000#32
  have t6 := broadcastInDim S32768x1 ![] bcast_S_S32768x1 (constant S_ .f32 0x44800000#32)
  have t7 := broadcastInDim S32768x1024 ![0, 1] bcast_S32768x1_S32768x1024_0_1 (Host.divf (broadcastInDim S32768x1 ![0] bcast_S32768_S32768x1_0 (Host.reduceAdd t4 t5 reducesTo_S32768x1024_S32768_d1 h_S_)) t6)
  have t8 := subf t4 t7
  have t9 := addf (Host.divf (broadcastInDim S32768x1 ![0] bcast_S32768_S32768x1_0 (Host.reduceAdd (mulf t8 t8) t5 reducesTo_S32768x1024_S32768_d1 h_S_)) t6) (broadcastInDim S32768x1 ![] bcast_S_S32768x1 (constant S_ .f32 0x3727C5AC#32))
  have t10 := broadcastInDim S32768x1024 ![0, 1] bcast_S1x1024_S32768x1024_0_1 (broadcastInDim S1x1024 ![1] bcast_S1024_S1x1024_1 (shapeCast _ a5 shapeCasts_S1x1024_S1024))
  have t11 := broadcastInDim S32768x1024 ![0, 1] bcast_S1x1024_S32768x1024_0_1 (broadcastInDim S1x1024 ![1] bcast_S1024_S1x1024_1 (shapeCast _ a6 shapeCasts_S1x1024_S1024))
  addf (mulf (mulf t8 (broadcastInDim S32768x1024 ![0, 1] bcast_S32768x1_S32768x1024_0_1 (Host.rsqrt t9))) t10) t11

/-- The transposed result. -/
abbrev flip (x : FVec Ideal S32768x1024 .f32) : FVec Ideal S1024x32768 .bf16 :=
  truncf .bf16 (transpose S1024x32768 [1, 0] x transposes_S32768x1024_S1024x32768_1_0) bitsLt_bf16_f32

theorem result_eq (m) (c) : Cert.OutprojRefIdeal.Value.res_main_v48 (F := Ideal) m c
    = norm (mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := rfl

theorem flipped_eq (m) (c) : Cert.OutprojRefIdeal.Value.res_main_v50 (F := Ideal) m c
    = flip (norm (mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) := rfl

end

open Cert.OutprojIdeal Cert.OutprojIdeal.Gen

/-- A block's row, computed from blocks that hold the reference's operands, is the reference's row. -/
theorem row_eq (x0 x1 : FVec Ideal S512x512 .bf16) (x2 : FVec Ideal S512x1024 .f32) (x3 : FVec Ideal S1x512 .f32)
    (wl wh : FVec Ideal S512x1024 .bf16) (x5 x6 : FVec Ideal S1x1024 .f32)
    (a0 a1 : FVec Ideal S32768x512 .bf16) (a2 : FVec Ideal S4x8192x1024 .f32) (a3 : FVec Ideal S1x512 .f32)
    (a4 : FVec Ideal S1x1024x1024 .f32) (a5 a6 : FVec Ideal S1x1024 .f32) (r : Fin 512) (r' : Fin 32768) (l : Fin 1024)
    (h0 : ∀ k, x0 (ix2 r k) = a0 (ix2 r' k)) (h1 : ∀ k, x1 (ix2 r k) = a1 (ix2 r' k))
    (h2 : ∀ k, x2 (ix2 r k) = a2 (ix3 ⟨r'.val / 8192, by omega⟩ ⟨r'.val % 8192, by omega⟩ k))
    (h3 : ∀ l, x3 (ix2 0 l) = a3 (ix2 0 l))
    (hl : ∀ (k : Fin 512) (l : Fin 1024), wl (ix2 k l) = a4 (ix3 0 ⟨k.val, by omega⟩ l))
    (hh : ∀ (k : Fin 512) (l : Fin 1024), wh (ix2 k l) = a4 (ix3 0 ⟨512 + k.val, by omega⟩ l))
    (h5 : ∀ l, x5 (ix2 0 l) = a5 (ix2 0 l)) (h6 : ∀ l, x6 (ix2 0 l) = a6 (ix2 0 l)) :
    k0_pay1 (F := Ideal) (k0_pay3 x0 x3 wl x1 wh x2) (k0_pay4 x5) (k0_pay5 x6) (k0_pay6 x0 x3 wl x1 wh x2) (ix2 r l)
      = norm (mix a0 a1 a2 a3 a4) a5 a6 (ix2 r' l) := by
  pointwise [k0_pay1, k0_pay3, k0_pay4, k0_pay5, k0_pay6, norm, mix]
  simp only [h0, h1, h2, h3, hl, hh, h5, h6]

/-- The same row, in the transposed result. -/
theorem col_eq (x0 x1 : FVec Ideal S512x512 .bf16) (x2 : FVec Ideal S512x1024 .f32) (x3 : FVec Ideal S1x512 .f32)
    (wl wh : FVec Ideal S512x1024 .bf16) (x5 x6 : FVec Ideal S1x1024 .f32)
    (a0 a1 : FVec Ideal S32768x512 .bf16) (a2 : FVec Ideal S4x8192x1024 .f32) (a3 : FVec Ideal S1x512 .f32)
    (a4 : FVec Ideal S1x1024x1024 .f32) (a5 a6 : FVec Ideal S1x1024 .f32) (r : Fin 512) (r' : Fin 32768) (l : Fin 1024)
    (h0 : ∀ k, x0 (ix2 r k) = a0 (ix2 r' k)) (h1 : ∀ k, x1 (ix2 r k) = a1 (ix2 r' k))
    (h2 : ∀ k, x2 (ix2 r k) = a2 (ix3 ⟨r'.val / 8192, by omega⟩ ⟨r'.val % 8192, by omega⟩ k))
    (h3 : ∀ l, x3 (ix2 0 l) = a3 (ix2 0 l))
    (hl : ∀ (k : Fin 512) (l : Fin 1024), wl (ix2 k l) = a4 (ix3 0 ⟨k.val, by omega⟩ l))
    (hh : ∀ (k : Fin 512) (l : Fin 1024), wh (ix2 k l) = a4 (ix3 0 ⟨512 + k.val, by omega⟩ l))
    (h5 : ∀ l, x5 (ix2 0 l) = a5 (ix2 0 l)) (h6 : ∀ l, x6 (ix2 0 l) = a6 (ix2 0 l)) :
    k0_pay2 (F := Ideal) (k0_pay3 x0 x3 wl x1 wh x2) (k0_pay4 x5) (k0_pay5 x6) (k0_pay6 x0 x3 wl x1 wh x2) (ix2 l r)
      = flip (norm (mix a0 a1 a2 a3 a4) a5 a6) (ix2 l r') := by
  have e := row_eq x0 x1 x2 x3 wl wh x5 x6 a0 a1 a2 a3 a4 a5 a6 r r' l h0 h1 h2 h3 hl hh h5 h6
  pointwise [k0_pay2, flip]
  exact e

variable (m : (ℓ : Loc nD τ sig) → Buf (Elt Ideal) ℓ)

/-- Where each window's block lies at each of the 64 points. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, t.val] :=
  (by decide +kernel : ∀ t : Fin grid0.N, _)

/-- The weight's block is the whole weight; the kernel reads its two halves. -/
theorem weight_at (c : Dev nD) (t : Fin cfg0.N) (k l : Fin 1024) :
    (iblk m c 4 t : FVec Ideal S1024x1024 .bf16) (ix2 k l) = (m ((c : Thread nD τ).loc main_arg4) : FVec Ideal S1x1024x1024 .f32) (ix3 0 k l) := by
  blk_point [iblk, V, idx t]

theorem lower_at (x : FVec Ideal S1024x1024 .bf16) (k : Fin 512) (l : Fin 1024) :
    View.ld (Val := Elt Ideal) (e' := .bf16) x r0_2 (ix2 k l) = x (ix2 ⟨k.val, by omega⟩ l) := by
  pointwise []

theorem upper_at (x : FVec Ideal S1024x1024 .bf16) (k : Fin 512) (l : Fin 1024) :
    View.ld (Val := Elt Ideal) (e' := .bf16) x r0_3 (ix2 k l) = x (ix2 ⟨512 + k.val, by omega⟩ l) := by
  pointwise []

theorem final7 (c : Dev nD) : (dats m 0 c).arrAt 7 cfg0.N
    = norm (mix (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (dats m 0 c).arrAt_eq_of_covers 7 _ (by decide +kernel) fun t hf y => ?_
  blk_simp; rw [after0_7]; unfold out0_7 k0_pay7 k0_pay8 k0_pay9 k0_pay10; frame_out
  have hN : t.val < 64 := t.isLt
  have h0 : (y 0).val < 512 := (y 0).isLt
  have hy : y = ix2 (y 0) (y 1) := by blk_ext []
  have he : ((cfg0.win 7).blk t).view.emb y = ix2 (⟨t.val * 512 + (y 0).val, by omega⟩ : Fin 32768) (y 1) := by
    blk_ext [idx t]
  rw [he]
  refine (congrArg _ hy).trans (row_eq _ _ _ _ _ _ _ _ _ _ _ _ _ _ _ (y 0) ⟨t.val * 512 + (y 0).val, by omega⟩ (y 1) ?_ ?_ ?_ ?_ ?_ ?_ ?_ ?_)
  · intro k; blk_point [iblk, V, idx t]
  · intro k; blk_point [iblk, V, idx t]
  · intro k; blk_point [iblk, V, idx t]
  · intro l; blk_point [iblk, V, idx t]
  · intro k l; exact (lower_at _ k l).trans (weight_at m c t _ l)
  · intro k l; exact (upper_at _ k l).trans (weight_at m c t _ l)
  · intro l; blk_point [iblk, V, idx t]
  · intro l; blk_point [iblk, V, idx t]

theorem final8 (c : Dev nD) : (dats m 0 c).arrAt 8 cfg0.N
    = flip (norm (mix (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) := by
  refine (dats m 0 c).arrAt_eq_of_covers 8 _ (by decide +kernel) fun t hf y => ?_
  blk_simp; rw [after0_8]; unfold out0_8 k0_pay7 k0_pay8 k0_pay9 k0_pay10; frame_out
  have hN : t.val < 64 := t.isLt
  have h0 : (y 1).val < 512 := (y 1).isLt
  have hy : y = ix2 (y 0) (y 1) := by blk_ext []
  have he : ((cfg0.win 8).blk t).view.emb y = ix2 (y 0) (⟨t.val * 512 + (y 1).val, by omega⟩ : Fin 32768) := by
    blk_ext [idx t]
  rw [he]
  refine (congrArg _ hy).trans (col_eq _ _ _ _ _ _ _ _ _ _ _ _ _ _ _ (y 1) ⟨t.val * 512 + (y 1).val, by omega⟩ (y 0) ?_ ?_ ?_ ?_ ?_ ?_ ?_ ?_)
  · intro k; blk_point [iblk, V, idx t]
  · intro k; blk_point [iblk, V, idx t]
  · intro k; blk_point [iblk, V, idx t]
  · intro l; blk_point [iblk, V, idx t]
  · intro k l; exact (lower_at _ k l).trans (weight_at m c t _ l)
  · intro k l; exact (upper_at _ k l).trans (weight_at m c t _ l)
  · intro l; blk_point [iblk, V, idx t]
  · intro l; blk_point [iblk, V, idx t]

end Cert.Proof.OutprojValue

end
-- ==== Proof.AttnIdeal.Tile.lean ====
/-
  One trip of the attention kernel's loop, read at an index: the scores of a tile, what each key leaves, the sums over a tile and
  the weighted values.  Head 1's functions are head 0's on other arguments.
-/
module

public import proofs.«01_k».proof.Proof.AttnIdeal.Step
public import Idealize.ShloMosaic.Lib.Pointwise
public import Idealize.ShloMosaic.Lib.WordCmp

@[expose] public section

set_option maxRecDepth 16384

noncomputable section
namespace Cert.Proof.AttnIdeal
open Cert.KernelIdeal Cert.KernelIdeal.Gen
open Idealize.ShloMosaic Idealize.ShloMosaic.TcCoe Idealize.ShloMosaic.Tactic
open Idealize.ShloMosaic.Pointwise

section
variable {F : FTy → Type} [FloatOps F] [Named F]
variable (q : FVec F S256x128 .bf16) (w : FVec F S256x256 .bf16) (m0 m1 m2 m3 : IVec S256x128 1)
  (k0 k1 k2 k3 v0 v1 v2 v3 : Vec F S1x128x128 .bf16) (r a : Vec F S1x256x128 .f32)

theorem sum00_eq : sum00 q w m0 k0 = k0_pay25 q w m0 k0 := rfl
theorem sum01_eq : sum01 q w m0 k0 = k0_pay25 q w m0 k0 := rfl
theorem sum02_eq : sum02 q w m0 k0 = k0_pay25 q w m0 k0 := rfl
theorem run1_eq : run1 q w m0 m1 m2 m3 k0 k1 k2 k3 r = run0 q w m0 m1 m2 m3 k0 k1 k2 k3 r := rfl
theorem newR1_eq : newR1 q w m0 m1 m2 m3 k0 k1 k2 k3 r = newR0 q w m0 m1 m2 m3 k0 k1 k2 k3 r := rfl
theorem newA1_eq : newA1 q w m0 m1 m2 m3 k0 k1 k2 k3 v0 v1 v2 v3 r a = newA0 q w m0 m1 m2 m3 k0 k1 k2 k3 v0 v1 v2 v3 r a := rfl
end

variable (q : FVec Ideal S256x128 .bf16) (w : FVec Ideal S256x256 .bf16) (m0 m1 m2 m3 : IVec S256x128 1)
  (k0 k1 k2 k3 v0 v1 v2 v3 : Vec Ideal S1x128x128 .bf16) (ro a : Vec Ideal S1x256x128 .f32)

/-- A query's score against a key of a tile. -/
def zT (q : FVec Ideal S256x128 .bf16) (kt : Vec Ideal S1x128x128 .bf16) (r : Fin 256) (c : Fin 128) : EReal := ∑ d : Fin 128, q (ix2 r d) * kt (ix3 0 c d)
/-- The logarithm of a score's break fraction, and of what the break leaves. -/
def lbOf (z : EReal) : EReal := min z 0 - Ideal.log (1 + Ideal.exp (0 - FloatOps.absf (F := Ideal) (φ := .f32) z))
def l1Of (z : EReal) : EReal := min (0 - z) 0 - Ideal.log (1 + Ideal.exp (0 - FloatOps.absf (F := Ideal) (φ := .f32) z))
/-- What a tile's key leaves, zero where the mask is off. -/
def lT (q : FVec Ideal S256x128 .bf16) (m : IVec S256x128 1) (kt : Vec Ideal S1x128x128 .bf16) (r : Fin 256) (c : Fin 128) : EReal :=
  Scalar.select (m (ix2 r c)) (l1Of (zT q kt r c)) 0

theorem sum_at (r c : Fin 256) : k0_pay25 q w m0 k0 (ix2 r c)
    = ∑ x : Fin 128, lT q m0 k0 r x * w (ix2 ⟨x.val, by omega⟩ c) + ∑ x : Fin 128, (lT q m0 k0 r x - lT q m0 k0 r x) * w (ix2 ⟨128 + x.val, by omega⟩ c) := by
  pointwise [k0_pay25, k0_pay22, k0_pay23, lT, l1Of, zT]

theorem run0_at (r : Fin 256) (c : Fin 128) : run0 q w m0 m1 m2 m3 k0 k1 k2 k3 ro (ix2 r c)
    = ro (ix3 0 r c) + k0_pay25 q w m3 k3 (ix2 r ⟨128 + c.val, by omega⟩) + k0_pay25 q w m2 k2 (ix2 r ⟨128 + c.val, by omega⟩)
      + k0_pay25 q w m1 k1 (ix2 r ⟨128 + c.val, by omega⟩) + k0_pay25 q w m0 k0 (ix2 r ⟨128 + c.val, by omega⟩) := by
  have h3 : k0_pay36 w (k0_pay34 q m3 k3) (k0_pay35 q m3 k3) = k0_pay25 q w m3 k3 := rfl
  unfold run0 run02
  rw [sum00_eq, sum01_eq, sum02_eq]
  pointwise [k0_pay45, k0_pay44, k0_pay40, k0_pay38, k0_pay37]
  rw [h3]

theorem newR0_at (r : Fin 256) (c : Fin 128) : newR0 q w m0 m1 m2 m3 k0 k1 k2 k3 ro (ix3 0 r c) = run0 q w m0 m1 m2 m3 k0 k1 k2 k3 ro (ix2 r c) := by
  pointwise [newR0, k0_pay47, run0]

/-- The weighted values of a tile: `s` the sums within the tile, `ru` the running sum above it. -/
def wT (m : IVec S256x128 1) (kt vt : Vec Ideal S1x128x128 .bf16) (s : FVec Ideal S256x256 .f32) (ru : Fin 128 → EReal) (r : Fin 256) (c : Fin 128) : EReal :=
  ∑ x : Fin 128, Scalar.select (m (ix2 r x)) (Ideal.exp (lbOf (zT q kt r x) + s (ix2 r ⟨x.val, by omega⟩) + ru x) * vt (ix3 0 x c)) 0

theorem newA0_at (r : Fin 256) (c : Fin 128) : newA0 q w m0 m1 m2 m3 k0 k1 k2 k3 v0 v1 v2 v3 ro a (ix3 0 r c)
    = a (ix3 0 r c) + (wT q m3 k3 v3 (k0_pay25 q w m3 k3) (fun x => ro (ix3 0 r x)) r c
      + wT q m2 k2 v2 (k0_pay25 q w m2 k2) (fun x => ro (ix3 0 r x) + k0_pay25 q w m3 k3 (ix2 r ⟨128 + x.val, by omega⟩)) r c
      + wT q m1 k1 v1 (k0_pay25 q w m1 k1) (fun x => ro (ix3 0 r x) + k0_pay25 q w m3 k3 (ix2 r ⟨128 + x.val, by omega⟩) + k0_pay25 q w m2 k2 (ix2 r ⟨128 + x.val, by omega⟩)) r c
      + wT q m0 k0 v0 (k0_pay25 q w m0 k0) (fun x => ro (ix3 0 r x) + k0_pay25 q w m3 k3 (ix2 r ⟨128 + x.val, by omega⟩) + k0_pay25 q w m2 k2 (ix2 r ⟨128 + x.val, by omega⟩)
         + k0_pay25 q w m1 k1 (ix2 r ⟨128 + x.val, by omega⟩)) r c) := by
  have h3 : k0_pay36 w (k0_pay34 q m3 k3) (k0_pay35 q m3 k3) = k0_pay25 q w m3 k3 := rfl
  unfold newA0 run02
  rw [sum00_eq, sum01_eq, sum02_eq]
  pointwise [k0_pay46, k0_pay44, k0_pay40, k0_pay38, k0_pay37, k0_pay39, k0_pay41, k0_pay42, k0_pay43, wT]
  rw [h3]
  pointwise [k0_pay33, k0_pay32, k0_pay31, k0_pay29, k0_pay28, k0_pay27, k0_pay26, k0_pay24, k0_pay23, k0_pay22, k0_pay19, k0_pay18, k0_pay17, lbOf, zT]

theorem hi_lo : ∀ n : Fin 33, (k0_off1 (hiW n.val) 0#32) = ![0, 256 * n.val - 512, 0] ∧ (k0_off1 (hiW n.val) 128#32) = ![0, 256 * n.val - 512 + 128, 0]
  ∧ (k0_off1 (hiW n.val) 256#32) = ![0, 256 * n.val - 512 + 256, 0] ∧ (k0_off1 (hiW n.val) 384#32) = ![0, 256 * n.val - 512 + 384, 0] := by decide +kernel

theorem sel_ofBool {α : Type} (p : Prop) [Decidable p] (x y : α) : Scalar.select (BitVec.ofBool (decide p)) x y = if p then x else y := by
  by_cases h : p <;> simp [Scalar.select, h]
theorem w_lo (x c : Fin 128) : k0_pay9 (F := Ideal) (ix2 ⟨x.val, by omega⟩ ⟨c.val, by omega⟩) = if c < x then 1 else 0 := by
  have hx := x.isLt
  have hc := c.isLt
  pointwise [k0_pay9]
  rw [WordCmp.cmpi_sge_ofNat (by omega) (by omega), WordCmp.cmpi_sgt_ofNat (by omega) (by omega)]
  simp only [sel_ofBool, Fin.lt_def]
  rw [if_neg (by omega)]
theorem w_hi (x c : Fin 128) : k0_pay9 (F := Ideal) (ix2 ⟨x.val, by omega⟩ ⟨128 + c.val, by omega⟩) = 1 := by
  have hx := x.isLt
  have hc := c.isLt
  pointwise [k0_pay9]
  rw [WordCmp.cmpi_sge_ofNat (by omega) (by omega)]
  rw [sel_ofBool]
  rw [if_pos (by omega)]

/-- The mask's comparison on words is the comparison on numbers. -/
theorem mask_word (c off r q n : ℕ) (hc : c < 128) (ho : off < 512) (hr : r < 256) (hq : q < 32) (hn : n < 33) :
    IntOp.cmpi CmpIPredicate.slt (IntOp.addi (BitVec.ofNat 32 c) (BitVec.ofNat 32 off))
      (IntOp.subi (IntOp.minsi (IntOp.addi (BitVec.ofNat 32 r) (Scalar.muli (BitVec.ofNat 32 q) 256#32)) (hiW n))
        (Scalar.maxsi (Scalar.subi (hiW n) 512#32) 0#32))
      = BitVec.ofBool (decide (256 * n - 512 + off + c < 256 * q + r ∧ 256 * n - 512 + off + c < 256 * n)) := by
  rw [next_hi ⟨n, hn⟩]
  have h1 : Affine.IsInt (Scalar.addi (BitVec.ofNat 32 c) (BitVec.ofNat 32 off)) (c + off) :=
    Affine.addi (Affine.ofNat c ⟨rfl, by omega⟩) (Affine.ofNat off ⟨rfl, by omega⟩) ⟨rfl, by omega, by omega⟩
  have h2 : Affine.IsInt (Scalar.muli (BitVec.ofNat 32 q) 256#32) (q * 256) :=
    Affine.muli (Affine.ofNat q ⟨rfl, by omega⟩) (Affine.ofNat 256 ⟨rfl, by omega⟩) ⟨by simp, by omega, by omega⟩
  have h3 : Affine.IsInt (Scalar.subi (Scalar.minsi (Scalar.addi (BitVec.ofNat 32 r) (Scalar.muli (BitVec.ofNat 32 q) 256#32)) (hiW n)) (hiW (n - 2)))
      (min ((r : ℤ) + q * 256) ((256 * n : ℕ) : ℤ) - ((256 * (n - 2) : ℕ) : ℤ)) :=
    Affine.subi (Affine.minsi (Affine.addi (Affine.ofNat r ⟨rfl, by omega⟩) h2 ⟨rfl, by omega, by omega⟩)
      (Affine.ofNat (256 * n) ⟨rfl, by omega⟩) rfl) (Affine.ofNat (256 * (n - 2)) ⟨rfl, by omega⟩) ⟨rfl, by omega, by omega⟩
  unfold Affine.IsInt at h1 h3
  unfold Scalar.addi at h1
  unfold Scalar.addi Scalar.minsi Scalar.subi at h3
  rw [WordCmp.cmpi_slt_eq, h1, h3]
  congr 1
  rw [decide_eq_decide]
  omega

abbrev maskAt (i : grid0.Coords) (n off r c : ℕ) : Prop := 256 * n - 512 + off + c < 256 * (i 2).val + r ∧ 256 * n - 512 + off + c < 256 * n

theorem m_at0 (i : grid0.Coords) (n : Fin 33) (r : Fin 256) (c : Fin 128) : k0_pay13 (k0_pay8 i) (iota .tc S256x128 32 [1] iota_S256x128_d1_w32) (hiW n) (ix2 r c)
   = BitVec.ofBool (decide (maskAt i n 0 r c)) := by
  have hi : (i 2).val < 32 := (i 2).isLt
  pointwise [k0_pay13, k0_pay12, k0_pay8]
  exact mask_word c 0 r (i 2).val n c.isLt (by omega) r.isLt hi n.isLt
theorem m_at1 (i : grid0.Coords) (n : Fin 33) (r : Fin 256) (c : Fin 128) : k0_pay14 (k0_pay8 i) (iota .tc S256x128 32 [1] iota_S256x128_d1_w32) (hiW n) (ix2 r c)
   = BitVec.ofBool (decide (maskAt i n 128 r c)) := by
  have hi : (i 2).val < 32 := (i 2).isLt
  pointwise [k0_pay14, k0_pay12, k0_pay8]
  exact mask_word c 128 r (i 2).val n c.isLt (by omega) r.isLt hi n.isLt
theorem m_at2 (i : grid0.Coords) (n : Fin 33) (r : Fin 256) (c : Fin 128) : k0_pay15 (k0_pay8 i) (iota .tc S256x128 32 [1] iota_S256x128_d1_w32) (hiW n) (ix2 r c)
   = BitVec.ofBool (decide (maskAt i n 256 r c)) := by
  have hi : (i 2).val < 32 := (i 2).isLt
  pointwise [k0_pay15, k0_pay12, k0_pay8]
  exact mask_word c 256 r (i 2).val n c.isLt (by omega) r.isLt hi n.isLt
theorem m_at3 (i : grid0.Coords) (n : Fin 33) (r : Fin 256) (c : Fin 128) : k0_pay16 (k0_pay8 i) (iota .tc S256x128 32 [1] iota_S256x128_d1_w32) (hiW n) (ix2 r c)
   = BitVec.ofBool (decide (maskAt i n 384 r c)) := by
  have hi : (i 2).val < 32 := (i 2).isLt
  pointwise [k0_pay16, k0_pay12, k0_pay8]
  exact mask_word c 384 r (i 2).val n c.isLt (by omega) r.isLt hi n.isLt

theorem ld_at0 (K : Vec Ideal S1x8192x128 .bf16) (n : Fin 33) (c d : Fin 128) :
   View.ld (Val := Elt Ideal) (e' := .bf16) K (rK0 (hiW n) (chk_hi n)) (ix3 0 c d) = K (ix3 0 ⟨256 * n.val - 512 + 0 + c.val, by omega⟩ d) := by
  pointwise [(hi_lo n).1]
theorem ld_at1 (K : Vec Ideal S1x8192x128 .bf16) (n : Fin 33) (c d : Fin 128) :
   View.ld (Val := Elt Ideal) (e' := .bf16) K (rK1 (hiW n) (chk_hi n)) (ix3 0 c d) = K (ix3 0 ⟨256 * n.val - 512 + 128 + c.val, by omega⟩ d) := by
  pointwise [(hi_lo n).2.1]
theorem ld_at2 (K : Vec Ideal S1x8192x128 .bf16) (n : Fin 33) (c d : Fin 128) :
   View.ld (Val := Elt Ideal) (e' := .bf16) K (rK2 (hiW n) (chk_hi n)) (ix3 0 c d) = K (ix3 0 ⟨256 * n.val - 512 + 256 + c.val, by omega⟩ d) := by
  pointwise [(hi_lo n).2.2.1]
theorem ld_at3 (K : Vec Ideal S1x8192x128 .bf16) (n : Fin 33) (c d : Fin 128) :
   View.ld (Val := Elt Ideal) (e' := .bf16) K (rK3 (hiW n) (chk_hi n)) (ix3 0 c d) = K (ix3 0 ⟨256 * n.val - 512 + 384 + c.val, by omega⟩ d) := by
  pointwise [(hi_lo n).2.2.2]

end Cert.Proof.AttnIdeal

end
-- ==== Proof.Values.Gmlp.lean ====
module

public import proofs.«01_k».proof.Proof.Gen.GmlpIdeal.Frame
public import proofs.«01_k».proof.Proof.Gen.GmlpIdeal.Value
public import proofs.«01_k».proof.Proof.Gen.GmlpRefIdeal.Run
public import Idealize.ShloMosaic.Lib.Pipeline.ValueKit
public import Idealize.ShloMosaic.Lib.Pointwise
public import Idealize.ShloMosaic.PureOps.Ideal.Laws
public import proofs.«01_k».proof.Proof.AttnIdeal.Tile

/-! The gating: each chunk of 128 rows is mixed along its rows by the masked weights of its column's group. -/

@[expose] public section

set_option maxRecDepth 16384

noncomputable section

open Idealize.ShloMosaic Idealize.ShloMosaic.TcCoe Idealize.SL.Sem
open Idealize.ShloMosaic.Pipeline (Dat)

namespace Cert.Proof.GmlpValue

section
open Cert.GmlpRefIdeal Cert.GmlpRefIdeal.Gen

/-- The activation of the gate's first half of columns. -/
def geluU (a0 : FVec Ideal S32768x2560 .bf16) : FVec Ideal S4x8192x512 .f32 :=
  have t0 := extractStridedSlice S4x8192x512 ![0, 0, 1536] (shapeCast _ (extf .f32 a0 bitsLt_bf16_f32) shapeCasts_S32768x2560_S4x8192x2560) slices_S4x8192x2560_S4x8192x512_0_0_1536
  mulf (mulf (broadcastInDim S4x8192x512 ![] bcast_S_S4x8192x512 (constant S_ .f32 0x3F000000#32)) t0) (Host.erfc (mulf (Host.negf t0) (broadcastInDim S4x8192x512 ![] bcast_S_S4x8192x512 (constant S_ .f32 0x3F3504F3#32))))

/-- The activation of its second half. -/
def geluV (a0 : FVec Ideal S32768x2560 .bf16) : FVec Ideal S4x8192x512 .f32 :=
  have t0 := extractStridedSlice S4x8192x512 ![0, 0, 2048] (shapeCast _ (extf .f32 a0 bitsLt_bf16_f32) shapeCasts_S32768x2560_S4x8192x2560) slices_S4x8192x2560_S4x8192x512_0_0_2048
  mulf (mulf (broadcastInDim S4x8192x512 ![] bcast_S_S4x8192x512 (constant S_ .f32 0x3F000000#32)) t0) (Host.erfc (mulf (Host.negf t0) (broadcastInDim S4x8192x512 ![] bcast_S_S4x8192x512 (constant S_ .f32 0x3F3504F3#32))))

/-- The reference's layer norm of rows. -/
def norm (v : FVec Ideal S4x8192x512 .f32) (a1 a2 : FVec Ideal S1x512 .f32) : FVec Ideal S4x8192x512 .f32 :=
  have z := constant S_ .f32 0x00000000#32
  have d := broadcastInDim S4x8192x1 ![] bcast_S_S4x8192x1 (constant S_ .f32 0x44000000#32)
  have t0 := subf v (broadcastInDim S4x8192x512 ![0, 1, 2] bcast_S4x8192x1_S4x8192x512_0_1_2 (Host.divf (broadcastInDim S4x8192x1 ![0, 1] bcast_S4x8192_S4x8192x1_0_1 (Host.reduceAdd v z reducesTo_S4x8192x512_S4x8192_d2 h_S_)) d))
  have t1 := addf (Host.divf (broadcastInDim S4x8192x1 ![0, 1] bcast_S4x8192_S4x8192x1_0_1 (Host.reduceAdd (mulf t0 t0) z reducesTo_S4x8192x512_S4x8192_d2 h_S_)) d) (broadcastInDim S4x8192x1 ![] bcast_S_S4x8192x1 (constant S_ .f32 0x3727C5AC#32))
  have t2 := broadcastInDim S4x8192x512 ![0, 1, 2] bcast_S1x1x512_S4x8192x512_0_1_2 (broadcastInDim S1x1x512 ![2] bcast_S512_S1x1x512_2 (shapeCast _ a1 shapeCasts_S1x512_S512))
  have t3 := broadcastInDim S4x8192x512 ![0, 1, 2] bcast_S1x1x512_S4x8192x512_0_1_2 (broadcastInDim S1x1x512 ![2] bcast_S512_S1x1x512_2 (shapeCast _ a2 shapeCasts_S1x512_S512))
  addf (mulf (mulf t0 (broadcastInDim S4x8192x512 ![0, 1, 2] bcast_S4x8192x1_S4x8192x512_0_1_2 (Host.rsqrt t1))) t2) t3

/-- The weights with the future masked. -/
def masked (a3 : FVec Ideal S1x8x128x128 .f32) : FVec Ideal S8x128x128 .f32 :=
  have t0 := select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))
  mulf (shapeCast _ a3 shapeCasts_S1x8x128x128_S8x128x128) (broadcastInDim S8x128x128 ![0, 1, 2] bcast_S1x128x128_S8x128x128_0_1_2 (broadcastInDim S1x128x128 ![1, 2] bcast_S128x128_S1x128x128_1_2 t0))

/-- The chunks' rows mixed by the masked weights, with the bias. -/
def mixed (n : FVec Ideal S4x8192x512 .f32) (w : FVec Ideal S8x128x128 .f32) (a4 : FVec Ideal S1x8x128 .f32) : FVec Ideal S4x8192x512 .f32 :=
  have t0 := Host.dotGeneral dot_S4x64x128x8x64_S8x128x128_S8x4x64x64x128_2_2_014_1_3_0 none (shapeCast _ n shapeCasts_S4x8192x512_S4x64x128x8x64) w
  have t1 := broadcastInDim S4x64x128x8x64 ![0, 1, 2, 3, 4] bcast_S1x1x128x8x1_S4x64x128x8x64_0_1_2_3_4 (broadcastInDim S1x1x128x8x1 ![2, 3] bcast_S128x8_S1x1x128x8x1_2_3 (transpose S128x8 [1, 0] (shapeCast _ a4 shapeCasts_S1x8x128_S8x128) transposes_S8x128_S128x8_1_0))
  shapeCast _ (addf (transpose S4x64x128x8x64 [1, 2, 4, 0, 3] t0 transposes_S8x4x64x64x128_S4x64x128x8x64_1_2_4_0_3) t1) shapeCasts_S4x64x128x8x64_S4x8192x512

/-- The product's root-mean-square norm. -/
def gated (g : FVec Ideal S4x8192x512 .f32) (a5 : FVec Ideal S1x512 .f32) : FVec Ideal S32768x512 .bf16 :=
  have t0 := addf (Host.divf (broadcastInDim S4x8192x1 ![0, 1] bcast_S4x8192_S4x8192x1_0_1 (Host.reduceAdd (mulf g g) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x3727C5AC#32))
  have t1 := mulf (mulf g (broadcastInDim S4x8192x512 ![0, 1, 2] bcast_S4x8192x1_S4x8192x512_0_1_2 (Host.rsqrt t0))) (broadcastInDim S4x8192x512 ![0, 1, 2] bcast_S1x1x512_S4x8192x512_0_1_2 (broadcastInDim S1x1x512 ![2] bcast_S512_S1x1x512_2 (shapeCast _ a5 shapeCasts_S1x512_S512)))
  truncf .bf16 (shapeCast _ t1 shapeCasts_S4x8192x512_S32768x512) bitsLt_bf16_f32

/-- The reference's result. -/
def gating (a0 : FVec Ideal S32768x2560 .bf16) (a1 a2 : FVec Ideal S1x512 .f32) (a3 : FVec Ideal S1x8x128x128 .f32)
    (a4 : FVec Ideal S1x8x128 .f32) (a5 : FVec Ideal S1x512 .f32) : FVec Ideal S32768x512 .bf16 :=
  gated (mulf (geluU a0) (mixed (norm (geluV a0) a1 a2) (masked a3) a4)) a5

theorem result_eq (m) (c) : Cert.GmlpRefIdeal.Value.res_main_v75 (F := Ideal) m c
    = gating (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- A mixed entry, by its row's chunk and its column's group. -/
theorem mixed_at (n : FVec Ideal S4x8192x512 .f32) (w : FVec Ideal S8x128x128 .f32) (a4 : FVec Ideal S1x8x128 .f32)
    (b : Fin 4) (c : Fin 64) (r : Fin 128) (l : Fin 512) :
    mixed n w a4 (ix3 b ⟨c.val * 128 + r.val, by omega⟩ l)
      = (∑ k : Fin 128, n (ix3 b ⟨c.val * 128 + k.val, by omega⟩ l) * w (ix3 ⟨l.val / 64, by omega⟩ r k)) + a4 (ix3 0 ⟨l.val / 64, by omega⟩ r) := by
  pointwise [mixed]

/-- A masked weight. -/
theorem masked_at (a3 : FVec Ideal S1x8x128x128 .f32) (g : Fin 8) (r k : Fin 128) :
    masked a3 (ix3 g r k) = if k.val ≤ r.val then a3 (ix4 0 g r k) else 0 := by
  pointwise [masked]
  have e : IntOp.addi (BitVec.ofNat 32 r.val) 0#32 = BitVec.ofNat 32 r.val := BitVec.add_zero _
  rw [e, WordCmp.cmpi_sge_ofNat (by omega) (by omega), AttnIdeal.sel_ofBool]

end

open Cert.GmlpIdeal Cert.GmlpIdeal.Gen

/-- The kernel's layer norm of a chunk. -/
def normK (v : FVec Ideal S128x512 .f32) (g b : FVec Ideal S1x512 .f32) : FVec Ideal S128x512 .f32 :=
  have d : FVec Ideal S128x1 .f32 := broadcast S128x1 (Scalar.ofBits .f32 0x44000000#32)
  have t0 := subf v (broadcastTo S128x512 (divf (shapeCast S128x1 (multiReduction .add [1] S128 v 0x00000000#32 reduces_S128x512_S128 (.inl rfl) rfl) shapeCasts_S128_S128x1) d) broadcasts_S128x1_S128x512)
  have t1 := divf (shapeCast S128x1 (multiReduction .add [1] S128 (mulf t0 t0) 0x00000000#32 reduces_S128x512_S128 (.inl rfl) rfl) shapeCasts_S128_S128x1) d
  have t2 := rsqrt (addf t1 (broadcast S128x1 (Scalar.ofBits .f32 0x3727C5AC#32)))
  addf (mulf (mulf t0 (broadcastTo S128x512 t2 broadcasts_S128x1_S128x512)) (broadcastTo S128x512 g broadcasts_S1x512_S128x512)) (broadcastTo S128x512 b broadcasts_S1x512_S128x512)

/-- Two groups' products, each on its half of 128 columns. -/
abbrev pair (w0 w1 : FVec Ideal S128x128 .bf16) (x : FVec Ideal S128x128 .bf16) : FVec Ideal S128x128 .f32 :=
  select k0_pay3 (matmul dot_S128x128_S128x128_S128x128_1_0_0_1_n_n none w0 x (constant S128x128 .f32 0x00000000#32))
    (matmul dot_S128x128_S128x128_S128x128_1_0_0_1_n_n none w1 x (constant S128x128 .f32 0x00000000#32))

/-- The mixed chunk. -/
def mixK (w0 w1 w2 w3 w4 w5 w6 w7 : FVec Ideal S128x128 .bf16) (n : FVec Ideal S128x512 .f32) : FVec Ideal S128x512 .f32 :=
  concatenate S128x512 1
    [⟨S128x128, pair w0 w1 (truncf .bf16 (extractStridedSlice S128x128 ![0, 0] n slices_S128x512_o0_0_S128x128) bitsLt_bf16_f32)⟩,
     ⟨S128x128, pair w2 w3 (truncf .bf16 (extractStridedSlice S128x128 ![0, 128] n slices_S128x512_o0_128_S128x128) bitsLt_bf16_f32)⟩,
     ⟨S128x128, pair w4 w5 (truncf .bf16 (extractStridedSlice S128x128 ![0, 256] n slices_S128x512_o0_256_S128x128) bitsLt_bf16_f32)⟩,
     ⟨S128x128, pair w6 w7 (truncf .bf16 (extractStridedSlice S128x128 ![0, 384] n slices_S128x512_o0_384_S128x128) bitsLt_bf16_f32)⟩]
    concatenates_S128x128_S128x128_S128x128_S128x128_S128x512_d1

/-- What the kernel leaves of a chunk. -/
def chunk (w0 w1 w2 w3 w4 w5 w6 w7 : FVec Ideal S128x128 .bf16) (x0 x1 : FVec Ideal S128x512 .bf16) (g b : FVec Ideal S1x512 .f32)
    (bias : FVec Ideal S128x512 .f32) (og : FVec Ideal S1x512 .f32) : FVec Ideal S128x512 .bf16 :=
  k0_pay19 (mulf (k0_pay13 x0) (addf (mixK w0 w1 w2 w3 w4 w5 w6 w7 (normK (k0_pay14 x1) (k0_pay15 g) (k0_pay16 b)))
    (shapeCast S128x512 bias shapeCasts_S128x512_S128x512))) og

variable (w0 w1 w2 w3 w4 w5 w6 w7 : FVec Ideal S128x128 .bf16) (x0 x1 : FVec Ideal S128x512 .bf16) (g b : FVec Ideal S1x512 .f32)
    (bias : FVec Ideal S128x512 .f32) (og : FVec Ideal S1x512 .f32)

/-! Each of the four stores of a block is the same function of its rows. -/

theorem chunk0 : k0_pay19 (k0_pay18 k0_pay3 w0 w1 w2 w3 w4 w5 w6 w7 (k0_pay13 x0) (k0_pay14 x1) (k0_pay15 g) (k0_pay16 b) (k0_pay17 x1) bias) og
    = chunk w0 w1 w2 w3 w4 w5 w6 w7 x0 x1 g b bias og := rfl
theorem chunk1 : k0_pay25 (k0_pay24 k0_pay3 w0 w1 w2 w3 w4 w5 w6 w7 (k0_pay20 x0) (k0_pay21 x1) (k0_pay22 g) (k0_pay23 b) bias) og
    = chunk w0 w1 w2 w3 w4 w5 w6 w7 x0 x1 g b bias og := rfl
theorem chunk2 : k0_pay30 (k0_pay26 x0) (k0_pay29 k0_pay3 w0 w1 w2 w3 w4 w5 w6 w7 (k0_pay27 x1) (k0_pay28 g) b bias) og
    = chunk w0 w1 w2 w3 w4 w5 w6 w7 x0 x1 g b bias og := rfl
theorem chunk3 : k0_pay1 (k0_pay31 x0) (k0_pay34 k0_pay3 w0 w1 w2 w3 w4 w5 w6 w7 (k0_pay32 x1) (k0_pay33 g) b) bias og
    = chunk w0 w1 w2 w3 w4 w5 w6 w7 x0 x1 g b bias og := rfl

/-- A mixed entry of the chunk, with the eight groups' weights as one family. -/
theorem mixK_at (n : FVec Ideal S128x512 .f32) (W : Fin 8 → Fin 128 → Fin 128 → EReal)
    (h0 : ∀ r k, w0 (ix2 r k) = W 0 r k) (h1 : ∀ r k, w1 (ix2 r k) = W 1 r k) (h2 : ∀ r k, w2 (ix2 r k) = W 2 r k)
    (h3 : ∀ r k, w3 (ix2 r k) = W 3 r k) (h4 : ∀ r k, w4 (ix2 r k) = W 4 r k) (h5 : ∀ r k, w5 (ix2 r k) = W 5 r k)
    (h6 : ∀ r k, w6 (ix2 r k) = W 6 r k) (h7 : ∀ r k, w7 (ix2 r k) = W 7 r k) (r : Fin 128) (l : Fin 512) :
    mixK w0 w1 w2 w3 w4 w5 w6 w7 n (ix2 r l) = ∑ k : Fin 128, W ⟨l.val / 64, by omega⟩ r k * n (ix2 k l) := by
  pointwise [mixK, k0_pay3]
  simp only [h0, h1, h2, h3, h4, h5, h6, h7]
  have hl := l.isLt
  have gr : ∀ (i : ℕ) (hi : i < 8), l.val / 64 = i → (⟨l.val / 64, by omega⟩ : Fin 8) = ⟨i, hi⟩ := fun i hi e => Fin.ext e
  by_cases c0 : l.val < 128
  · rw [dif_pos c0]
    rw [WordCmp.cmpi_slt_ofNat (by omega) (by omega), AttnIdeal.sel_ofBool]
    by_cases h : l.val < 64
    · rw [if_pos h, gr 0 (by omega) (by omega)]; rfl
    · rw [if_neg h, gr 1 (by omega) (by omega)]; rfl
  rw [dif_neg c0]
  by_cases c1 : l.val - 128 < 128
  · rw [dif_pos c1]
    rw [WordCmp.cmpi_slt_ofNat (by omega) (by omega), AttnIdeal.sel_ofBool]
    have e : ∀ hp, (⟨128 + (l.val - 128), hp⟩ : Fin 512) = l := fun _ => Fin.ext (by show 128 + (l.val - 128) = l.val; omega)
    simp only [e]
    by_cases h : l.val - 128 < 64
    · rw [if_pos h, gr 2 (by omega) (by omega)]; rfl
    · rw [if_neg h, gr 3 (by omega) (by omega)]; rfl
  rw [dif_neg c1]
  by_cases c2 : l.val - 128 - 128 < 128
  · rw [dif_pos c2]
    rw [WordCmp.cmpi_slt_ofNat (by omega) (by omega), AttnIdeal.sel_ofBool]
    have e : ∀ hp, (⟨256 + (l.val - 128 - 128), hp⟩ : Fin 512) = l := fun _ => Fin.ext (by show 256 + (l.val - 128 - 128) = l.val; omega)
    simp only [e]
    by_cases h : l.val - 128 - 128 < 64
    · rw [if_pos h, gr 4 (by omega) (by omega)]; rfl
    · rw [if_neg h, gr 5 (by omega) (by omega)]; rfl
  rw [dif_neg c2]
  rw [WordCmp.cmpi_slt_ofNat (by omega) (by omega), AttnIdeal.sel_ofBool]
  have e : ∀ hp, (⟨384 + (l.val - 128 - 128 - 128), hp⟩ : Fin 512) = l := fun _ => Fin.ext (by show 384 + (l.val - 128 - 128 - 128) = l.val; omega)
  simp only [e]
  by_cases h : l.val - 128 - 128 - 128 < 64
  · rw [if_pos h, gr 6 (by omega) (by omega)]; rfl
  · rw [if_neg h, gr 7 (by omega) (by omega)]; rfl

/-- A chunk's row, computed from blocks that hold the reference's operands, is the reference's row. -/
theorem row_eq (a0 : FVec Ideal Cert.GmlpRefIdeal.S32768x2560 .bf16)
    (M : FVec Ideal S128x512 .f32) (M' : FVec Ideal Cert.GmlpRefIdeal.S4x8192x512 .f32) (a5 : FVec Ideal Cert.GmlpRefIdeal.S1x512 .f32)
    (r : Fin 128) (r' : Fin 32768) (l : Fin 512)
    (h0 : ∀ k : Fin 512, x0 (ix2 r k) = a0 (ix2 r' ⟨1536 + k.val, by omega⟩))
    (hM : ∀ k : Fin 512, M (ix2 r k) = M' (ix3 ⟨r'.val / 8192, by omega⟩ ⟨r'.val % 8192, by omega⟩ k))
    (h5 : ∀ l, og (ix2 0 l) = a5 (ix2 0 l)) :
    k0_pay19 (F := Ideal) (mulf (k0_pay13 x0) M) og (ix2 r l) = gated (mulf (geluU a0) M') a5 (ix2 r' l) := by
  pointwise [k0_pay19, k0_pay13, gated, geluU]
  simp only [h0, hM, h5]
  simp only [neg_mul, Ideal.erfc_neg, Ideal.erf_def]

/-- A normalised row of the chunk is the reference's. -/
theorem norm_eq (a0 : FVec Ideal Cert.GmlpRefIdeal.S32768x2560 .bf16) (a1 a2 : FVec Ideal Cert.GmlpRefIdeal.S1x512 .f32)
    (r : Fin 128) (r' : Fin 32768) (l : Fin 512)
    (h1 : ∀ k : Fin 512, x1 (ix2 r k) = a0 (ix2 r' ⟨2048 + k.val, by omega⟩))
    (hg : ∀ l, g (ix2 0 l) = a1 (ix2 0 l)) (hb : ∀ l, b (ix2 0 l) = a2 (ix2 0 l)) :
    normK (k0_pay14 x1) (k0_pay15 g) (k0_pay16 b) (ix2 r l)
      = norm (geluV a0) a1 a2 (ix3 ⟨r'.val / 8192, by omega⟩ ⟨r'.val % 8192, by omega⟩ l) := by
  pointwise [normK, k0_pay14, k0_pay15, k0_pay16, norm, geluV]
  simp only [h1, hg, hb]
  simp only [neg_mul, Ideal.erfc_neg, Ideal.erf_def]

/-- The masked weight the kernel mixes with. -/
theorem weight_eq (w : Vec Ideal S1x128x128 .f32) (r k : Fin 128) :
    k0_pay4 (F := Ideal) w (ix2 r k) = if k.val ≤ r.val then w (ix3 0 r k) else 0 := by
  pointwise [k0_pay4, k0_pay2]
  rw [WordCmp.cmpi_sle_ofNat (by omega) (by omega), AttnIdeal.sel_ofBool]

/-- A chunk of the kernel is the reference's chunk. -/
theorem chunk_at (a0 : FVec Ideal Cert.GmlpRefIdeal.S32768x2560 .bf16) (a1 a2 : FVec Ideal Cert.GmlpRefIdeal.S1x512 .f32)
    (a3 : FVec Ideal Cert.GmlpRefIdeal.S1x8x128x128 .f32) (a4 : FVec Ideal Cert.GmlpRefIdeal.S1x8x128 .f32)
    (a5 : FVec Ideal Cert.GmlpRefIdeal.S1x512 .f32) (C : Fin 256) (r : Fin 128) (l : Fin 512)
    (hx0 : ∀ (r : Fin 128) (k : Fin 512), x0 (ix2 r k) = a0 (ix2 ⟨C.val * 128 + r.val, by omega⟩ ⟨1536 + k.val, by omega⟩))
    (hx1 : ∀ (r : Fin 128) (k : Fin 512), x1 (ix2 r k) = a0 (ix2 ⟨C.val * 128 + r.val, by omega⟩ ⟨2048 + k.val, by omega⟩))
    (hg : ∀ l, g (ix2 0 l) = a1 (ix2 0 l)) (hb : ∀ l, b (ix2 0 l) = a2 (ix2 0 l))
    (h0 : ∀ r k, w0 (ix2 r k) = masked a3 (ix3 0 r k)) (h1 : ∀ r k, w1 (ix2 r k) = masked a3 (ix3 1 r k))
    (h2 : ∀ r k, w2 (ix2 r k) = masked a3 (ix3 2 r k)) (h3 : ∀ r k, w3 (ix2 r k) = masked a3 (ix3 3 r k))
    (h4 : ∀ r k, w4 (ix2 r k) = masked a3 (ix3 4 r k)) (h5 : ∀ r k, w5 (ix2 r k) = masked a3 (ix3 5 r k))
    (h6 : ∀ r k, w6 (ix2 r k) = masked a3 (ix3 6 r k)) (h7 : ∀ r k, w7 (ix2 r k) = masked a3 (ix3 7 r k))
    (hbias : ∀ (r : Fin 128) (l : Fin 512), bias (ix2 r l) = a4 (ix3 0 ⟨l.val / 64, by omega⟩ r))
    (hog : ∀ l, og (ix2 0 l) = a5 (ix2 0 l)) :
    chunk w0 w1 w2 w3 w4 w5 w6 w7 x0 x1 g b bias og (ix2 r l) = gating a0 a1 a2 a3 a4 a5 (ix2 ⟨C.val * 128 + r.val, by omega⟩ l) := by
  unfold chunk gating
  refine row_eq x0 og a0 _ _ a5 r _ l (hx0 r) (fun k => ?_) hog
  have hC := C.isLt
  have at_ : ∀ (s : Fin 128) (hb hs hp hq), (ix3 (⟨(C.val * 128 + s.val) / 8192, hb⟩ : Fin 4) (⟨(C.val * 128 + s.val) % 8192, hs⟩ : Fin 8192) k : Cert.GmlpRefIdeal.S4x8192x512.Idx)
      = ix3 ⟨C.val / 64, hp⟩ ⟨C.val % 64 * 128 + s.val, hq⟩ k := fun s hb hs hp hq => by
    have e1 : (⟨(C.val * 128 + s.val) / 8192, hb⟩ : Fin 4) = ⟨C.val / 64, hp⟩ := Fin.ext (by show _ / _ = _ / _; omega)
    have e2 : (⟨(C.val * 128 + s.val) % 8192, hs⟩ : Fin 8192) = ⟨C.val % 64 * 128 + s.val, hq⟩ := Fin.ext (by show _ % _ = _ % _ * _ + _; omega)
    rw [e1, e2]
  have eb : (shapeCast S128x512 bias shapeCasts_S128x512_S128x512) (ix2 r k) = bias (ix2 r k) := by pointwise []
  show mixK w0 w1 w2 w3 w4 w5 w6 w7 _ (ix2 r k) + (shapeCast S128x512 bias shapeCasts_S128x512_S128x512) (ix2 r k) = _
  rw [eb, hbias, at_ r (by omega) (by omega) (by omega) (by omega)]
  refine Eq.trans ?_ (mixed_at _ (masked a3) a4 ⟨C.val / 64, by omega⟩ ⟨C.val % 64, by omega⟩ r k).symm
  rw [mixK_at w0 w1 w2 w3 w4 w5 w6 w7 _ (fun g r k => masked a3 (ix3 g r k)) h0 h1 h2 h3 h4 h5 h6 h7]
  congr 1
  refine Finset.sum_congr rfl fun s _ => ?_
  rw [norm_eq x1 g b a0 a1 a2 s ⟨C.val * 128 + s.val, by omega⟩ k (hx1 s) hg hb, mul_comm]
  congr 2
  exact at_ s _ _ _ _

/-- The four chunks' stores tile the block. -/
theorem tiles (p0 p1 p2 p3 : Vec Ideal S128x512 .bf16) (f : S512x512.Idx → EReal)
    (h0' : ∀ (r : Fin 128) (l : Fin 512), p0 (ix2 r l) = f (ix2 ⟨r.val, by omega⟩ l))
    (h1' : ∀ (r : Fin 128) (l : Fin 512), p1 (ix2 r l) = f (ix2 ⟨128 + r.val, by omega⟩ l))
    (h2' : ∀ (r : Fin 128) (l : Fin 512), p2 (ix2 r l) = f (ix2 ⟨256 + r.val, by omega⟩ l))
    (h3' : ∀ (r : Fin 128) (l : Fin 512), p3 (ix2 r l) = f (ix2 ⟨384 + r.val, by omega⟩ l)) (y : S512x512.Idx) :
    View.canon (Val := Elt Ideal) (s := S512x512) (e := .bf16) [⟨r0_13, p3⟩, ⟨r0_12, p2⟩, ⟨r0_11, p1⟩, ⟨r0_8, p0⟩] y = f y := by
  canon_tiles z h
  all_goals have hz : z = ix2 (z 0) (z 1) := by blk_ext []
  · refine (congrArg p3 hz).trans ((h3' _ _).trans (congrArg f ?_)); blk_ext <;> first | exact h0.symm | exact h1.symm
  · refine (congrArg p2 hz).trans ((h2' _ _).trans (congrArg f ?_)); blk_ext <;> first | exact h0.symm | exact h1.symm
  · refine (congrArg p1 hz).trans ((h1' _ _).trans (congrArg f ?_)); blk_ext <;> first | exact h0.symm | exact h1.symm
  · refine (congrArg p0 hz).trans ((h0' _ _).trans (congrArg f ?_)); blk_ext <;> first | exact h0.symm | exact h1.symm

variable (m : (ℓ : Loc nD τ sig) → Buf (Elt Ideal) ℓ)

/-- Where each window's block lies at each of the 64 points. -/
theorem idx : ∀ t : Fin cfg0.N, win0_0.index t = ![t.val, 3] ∧ win0_1.index t = ![t.val, 4] ∧ win0_2.index t = ![0, 0]
    ∧ win0_3.index t = ![0, 0] ∧ win0_4.index t = ![0, 0, 0] ∧ win0_5.index t = ![0, 0] ∧ win0_6.index t = ![0, 0]
    ∧ win0_7.index t = ![t.val, 0] :=
  (by decide +kernel : ∀ t : Fin grid0.N, _)

/-- The bias's block repeats each group's bias over the group's columns. -/
theorem bias_at (c : Dev nD) (t : Fin cfg0.N) (r : Fin 128) (l : Fin 512) :
    (iblk m c 5 t : FVec Ideal S128x512 .f32) (ix2 r l) = (m ((c : Thread nD τ).loc main_arg4) : FVec Ideal S1x8x128 .f32) (ix3 0 ⟨l.val / 64, by omega⟩ r) := by
  blk_point [iblk, V, idx t]

theorem weight_at (c : Dev nD) (t : Fin cfg0.N) (g : Fin 8) (r k : Fin 128) :
    (iblk m c 4 t : FVec Ideal S8x128x128 .f32) (ix3 g r k) = (m ((c : Thread nD τ).loc main_arg3) : FVec Ideal S1x8x128x128 .f32) (ix4 0 g r k) := by
  blk_point [iblk, V, idx t]

theorem ggain_at (c : Dev nD) (t : Fin cfg0.N) (l : Fin 512) :
    (iblk m c 2 t : FVec Ideal S1x512 .f32) (ix2 0 l) = (m ((c : Thread nD τ).loc main_arg1) : FVec Ideal S1x512 .f32) (ix2 0 l) := by
  blk_point [iblk, V, idx t]

theorem goff_at (c : Dev nD) (t : Fin cfg0.N) (l : Fin 512) :
    (iblk m c 3 t : FVec Ideal S1x512 .f32) (ix2 0 l) = (m ((c : Thread nD τ).loc main_arg2) : FVec Ideal S1x512 .f32) (ix2 0 l) := by
  blk_point [iblk, V, idx t]

theorem ogain_at (c : Dev nD) (t : Fin cfg0.N) (l : Fin 512) :
    (iblk m c 6 t : FVec Ideal S1x512 .f32) (ix2 0 l) = (m ((c : Thread nD τ).loc main_arg5) : FVec Ideal S1x512 .f32) (ix2 0 l) := by
  blk_point [iblk, V, idx t]

section
variable (x : FVec Ideal S512x512 .bf16) (r : Fin 128) (k : Fin 512)
theorem rows0 : View.ld (Val := Elt Ideal) (e' := .bf16) x r0_8 (ix2 r k) = x (ix2 ⟨0 * 128 + r.val, by omega⟩ k) := by
  pointwise []
theorem rows1 : View.ld (Val := Elt Ideal) (e' := .bf16) x r0_11 (ix2 r k) = x (ix2 ⟨1 * 128 + r.val, by omega⟩ k) := by
  pointwise []
theorem rows2 : View.ld (Val := Elt Ideal) (e' := .bf16) x r0_12 (ix2 r k) = x (ix2 ⟨2 * 128 + r.val, by omega⟩ k) := by
  pointwise []
theorem rows3 : View.ld (Val := Elt Ideal) (e' := .bf16) x r0_13 (ix2 r k) = x (ix2 ⟨3 * 128 + r.val, by omega⟩ k) := by
  pointwise []
end

/-- A weight the kernel mixes with is the reference's. -/
theorem masked_eq (c : Dev nD) (t : Fin cfg0.N) (g : Fin 8) (x : Vec Ideal S1x128x128 .f32) (r k : Fin 128)
    (hx : x (ix3 0 r k) = (iblk m c 4 t : FVec Ideal S8x128x128 .f32) (ix3 g r k)) :
    k0_pay4 (F := Ideal) x (ix2 r k) = masked (m ((c : Thread nD τ).loc main_arg3) : FVec Ideal S1x8x128x128 .f32) (ix3 g r k) := by
  rw [weight_eq, masked_at, hx, weight_at]

/-- Chunk `j` of the block at point `t`. -/
theorem chunk_eq (c : Dev nD) (t : Fin cfg0.N) (j : Fin 4) (y0 y1 : FVec Ideal S128x512 .bf16) (r : Fin 128) (l : Fin 512)
    (e0 : ∀ (r : Fin 128) (k : Fin 512), y0 (ix2 r k) = (iblk m c 0 t : FVec Ideal S512x512 .bf16) (ix2 ⟨j.val * 128 + r.val, by omega⟩ k))
    (e1 : ∀ (r : Fin 128) (k : Fin 512), y1 (ix2 r k) = (iblk m c 1 t : FVec Ideal S512x512 .bf16) (ix2 ⟨j.val * 128 + r.val, by omega⟩ k))
    (ht : t.val < 64) :
    chunk (k0_pay4 (View.ld (iblk m c 4 t) r0_0)) (k0_pay4 (View.ld (iblk m c 4 t) r0_1)) (k0_pay4 (View.ld (iblk m c 4 t) r0_2)) (k0_pay4 (View.ld (iblk m c 4 t) r0_3))
      (k0_pay4 (View.ld (iblk m c 4 t) r0_4)) (k0_pay4 (View.ld (iblk m c 4 t) r0_5)) (k0_pay4 (View.ld (iblk m c 4 t) r0_6)) (k0_pay4 (View.ld (iblk m c 4 t) r0_7))
      y0 y1 (View.ld (iblk m c 2 t) r0_9) (View.ld (iblk m c 3 t) r0_9) (View.ld (iblk m c 5 t) r0_10) (View.ld (iblk m c 6 t) r0_9) (ix2 r l)
    = gating (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (ix2 ⟨t.val * 512 + (j.val * 128 + r.val), by omega⟩ l) := by
  have hr : ∀ r : Fin 128, (⟨t.val * 512 + (j.val * 128 + r.val), by omega⟩ : Fin 32768) = ⟨(t.val * 4 + j.val) * 128 + r.val, by omega⟩ :=
    fun r => Fin.ext (by show _ * _ + (_ * _ + _) = (_ * _ + _) * _ + _; omega)
  rw [hr]
  refine chunk_at _ _ _ _ _ _ _ _ _ _ _ _ _ _ _ _ _ _ _ _ ⟨t.val * 4 + j.val, by omega⟩ r l ?_ ?_ ?_ ?_ ?_ ?_ ?_ ?_ ?_ ?_ ?_ ?_ ?_ ?_
  · intro r k; rw [e0, ← hr]; blk_point [iblk, V, idx t]
  · intro r k; rw [e1, ← hr]; blk_point [iblk, V, idx t]
  · intro l; exact Eq.trans (by pointwise []) (ggain_at m c t l)
  · intro l; exact Eq.trans (by pointwise []) (goff_at m c t l)
  · intro r k; exact masked_eq m c t 0 _ r k (by pointwise [])
  · intro r k; exact masked_eq m c t 1 _ r k (by pointwise [])
  · intro r k; exact masked_eq m c t 2 _ r k (by pointwise [])
  · intro r k; exact masked_eq m c t 3 _ r k (by pointwise [])
  · intro r k; exact masked_eq m c t 4 _ r k (by pointwise [])
  · intro r k; exact masked_eq m c t 5 _ r k (by pointwise [])
  · intro r k; exact masked_eq m c t 6 _ r k (by pointwise [])
  · intro r k; exact masked_eq m c t 7 _ r k (by pointwise [])
  · intro r l; exact Eq.trans (by pointwise []) (bias_at m c t r l)
  · intro l; exact Eq.trans (by pointwise []) (ogain_at m c t l)

theorem final7 (c : Dev nD) : (dats m 0 c).arrAt 7 cfg0.N
    = gating (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]; unfold out0_7
  have hN : t.val < 64 := t.isLt
  have he : ∀ y : S512x512.Idx, ((cfg0.win 7).blk t).view.emb y = ix2 (⟨t.val * 512 + (y 0).val, by have := (y 0).isLt; change _ < 512 at this; omega⟩ : Fin 32768) (y 1) := fun y => by
    blk_ext [idx t]
  refine tiles _ _ _ _ (fun y => gating _ _ _ _ _ _ (((cfg0.win 7).blk t).view.emb y)) ?_ ?_ ?_ ?_ y
  · intro r l; rw [he]; refine Eq.trans ?_ ((chunk_eq m c t 0 _ _ r l (rows0 _) (rows0 _) hN).trans ?_)
    · exact congrFun (chunk0 _ _ _ _ _ _ _ _ _ _ _ _ _ _) _
    · congr 2
      exact Fin.ext (by show t.val * 512 + (0 * 128 + r.val) = t.val * 512 + r.val; omega)
  · intro r l; rw [he]; refine Eq.trans ?_ ((chunk_eq m c t 1 _ _ r l (rows1 _) (rows1 _) hN).trans ?_)
    · exact congrFun (chunk1 _ _ _ _ _ _ _ _ _ _ _ _ _ _) _
    · congr 2
  · intro r l; rw [he]; refine Eq.trans ?_ ((chunk_eq m c t 2 _ _ r l (rows2 _) (rows2 _) hN).trans ?_)
    · exact congrFun (chunk2 _ _ _ _ _ _ _ _ _ _ _ _ _ _) _
    · congr 2
  · intro r l; rw [he]; refine Eq.trans ?_ ((chunk_eq m c t 3 _ _ r l (rows3 _) (rows3 _) hN).trans ?_)
    · exact congrFun (chunk3 _ _ _ _ _ _ _ _ _ _ _ _ _ _) _
    · congr 2

end Cert.Proof.GmlpValue

end
-- ==== Proof.Values.AttnRef.lean ====
/-
  The attention's reference, read at an index: scores, what each key leaves, the sums to the end of a row, weights and the mix.
-/
module

public import proofs.«01_k».proof.Proof.Gen.ReferenceIdeal.Run
public import Idealize.ShloMosaic.Lib.Pointwise
public import Idealize.ShloMosaic.Lib.WordCmp

@[expose] public section

set_option maxRecDepth 16384

noncomputable section
namespace Cert.Proof.AttnRef
open Cert.ReferenceIdeal Cert.ReferenceIdeal.Gen
open Idealize.ShloMosaic Idealize.ShloMosaic.TcCoe Idealize.ShloMosaic.Tactic
open Idealize.ShloMosaic.Pointwise

/-- One of the reference's three parts of `h`, by head. -/
def heads (a0 : FVec Ideal S4x8192x2560 .bf16) (o : Fin 3 → ℕ) (h : S4x8192x2560.Slices o S4x8192x512) : FVec Ideal S4x8x8192x64 .f32 :=
  transpose S4x8x8192x64 [0, 2, 1, 3] (shapeCast _ (extractStridedSlice S4x8192x512 o (extf .f32 a0 bitsLt_bf16_f32) h) shapeCasts_S4x8192x512_S4x8192x8x64) transposes_S4x8192x8x64_S4x8x8192x64_0_2_1_3

def causal : IVec S4x8x8192x8192 1 :=
  have t0 := iotaInDim S8192 32 0
  have t1 := cmpi .slt (broadcastInDim S8192x8192 ![0, 1] bcast_S1x8192_S8192x8192_0_1 (broadcastInDim S1x8192 ![1] bcast_S8192_S1x8192_1 t0)) (broadcastInDim S8192x8192 ![0, 1] bcast_S8192x1_S8192x8192_0_1 (broadcastInDim S8192x1 ![0] bcast_S8192_S8192x1_0 t0))
  broadcastInDim S4x8x8192x8192 ![2, 3] bcast_S8192x8192_S4x8x8192x8192_2_3 t1

def score (q k : FVec Ideal S4x8x8192x64 .f32) : FVec Ideal S4x8x8192x8192 .f32 :=
  mulf (Host.dotGeneral dot_S4x8x8192x64_S4x8x8192x64_S4x8x8192x8192_3_3_2_2_01_01 none q k) (broadcastInDim S4x8x8192x8192 ![] bcast_S_S4x8x8192x8192 (constant S_ .f32 0x3E000000#32))

def zero4 : FVec Ideal S4x8x8192x8192 .f32 := broadcastInDim S4x8x8192x8192 ![] bcast_S_S4x8x8192x8192 (constant S_ .f32 0x00000000#32)

/-- The logarithm of the logistic function at `-t`, for the array `t`. -/
def logSig (t7 : FVec Ideal S4x8x8192x8192 .f32) : FVec Ideal S4x8x8192x8192 .f32 :=
  have t10 := subf t7 zero4
  Host.negf (select (cmpf .une t10 t10) (addf t7 zero4) (addf (maximumf t7 zero4) (Host.log1p (Host.exp (Host.negf (Host.absf t10))))))

def leaves (z : FVec Ideal S4x8x8192x8192 .f32) : FVec Ideal S4x8x8192x8192 .f32 :=
  select causal (logSig (Host.negf (Host.negf z))) zero4

def cum (l : FVec Ideal S4x8x8192x8192 .f32) : FVec Ideal S4x8x8192x8192 .f32 :=
  Host.reduceWindowAdd ![1, 1, 1, 8192] ![1, 1, 1, 1] ![0, 0, 0, 0] ![0, 0, 0, 8191] l (broadcastInDim S_ ![] bcast_S_S_ (constant S_ .f32 0x00000000#32)) reduceWindows_S4x8x8192x8192_S4x8x8192x8192_w1s1p0_0_w1s1p0_0_w1s1p0_0_w8192s1p0_8191 h_S_

def weights (z c l : FVec Ideal S4x8x8192x8192 .f32) : FVec Ideal S4x8x8192x8192 .f32 :=
  select causal (Host.exp (addf (logSig (Host.negf z)) (subf c l))) zero4

def mixed (w : FVec Ideal S4x8x8192x8192 .f32) (v : FVec Ideal S4x8x8192x64 .f32) : FVec Ideal S4x8192x512 .bf16 :=
  truncf .bf16 (shapeCast _ (transpose S4x8192x8x64 [0, 2, 1, 3] (Host.dotGeneral dot_S4x8x8192x8192_S4x8x8192x64_S4x8x8192x64_3_2_2_3_01_01 none w v) transposes_S4x8x8192x64_S4x8192x8x64_0_2_1_3) shapeCasts_S4x8192x8x64_S4x8192x512) bitsLt_bf16_f32

def qs (a0 : FVec Ideal S4x8192x2560 .bf16) := heads a0 ![0, 0, 0] slices_S4x8192x2560_S4x8192x512_0_0_0
def ks (a0 : FVec Ideal S4x8192x2560 .bf16) := heads a0 ![0, 0, 512] slices_S4x8192x2560_S4x8192x512_0_0_512
def vs (a0 : FVec Ideal S4x8192x2560 .bf16) := heads a0 ![0, 0, 1024] slices_S4x8192x2560_S4x8192x512_0_0_1024

theorem result_eq (m) (c) : Cert.ReferenceIdeal.Value.res_main_v32 (F := Ideal) m c
    = (let a0 := m ((c.tc : Thread nD τ).loc main_arg0); let z := score (qs a0) (ks a0)
       mixed (weights z (cum (leaves z)) (leaves z)) (vs a0)) := rfl

theorem foldl_add {ι : Type} (f : ι → EReal) : ∀ (l : List ι) (a : EReal), l.foldl (fun r n => r + f n) a = a + (l.map f).sum
  | [], a => by simp
  | x :: l, a => by rw [List.foldl_cons, foldl_add f l, List.map_cons, List.sum_cons, add_assoc]

/-- The window sums run to the end of the row. -/
theorem cum_at (l : FVec Ideal S4x8x8192x8192 .f32) (b : Fin 4) (h : Fin 8) (t s : Fin 8192) :
    cum l (ix4 b h t s) = ∑ k : Fin 8192, if hk : s.val + k.val < 8192 then l (ix4 b h t ⟨s.val + k.val, hk⟩) else 0 := by
  have hv : broadcastInDim S_ ![] bcast_S_S_ (constant (F := Ideal) S_ FTy.f32 0#32) (Shape.Idx.first h_S_) = (0 : EReal) := by pointwise []
  unfold cum Host.reduceWindowAdd
  rw [Ideal.hostReduceWindowAdd_def]
  unfold Ideal.hostReduceWindowAdd Host.reduceWindow
  dsimp only
  rw [foldl_add, ← Fin.sum_univ_def, hv, zero_add]
  have hb := b.isLt
  have hh := h.isLt
  have ht := t.isLt
  have e : ∀ w : (⟨4, ![1, 1, 1, 8192]⟩ : Shape).Idx, (w 0).val = 0 ∧ (w 1).val = 0 ∧ (w 2).val = 0 := fun w => by
    have h0 : (w 0).val < 1 := (w 0).isLt
    have h1 : (w 1).val < 1 := (w 1).isLt
    have h2 : (w 2).val < 1 := (w 2).isLt
    omega
  have key : ∀ (w : (⟨4, ![1, 1, 1, 8192]⟩ : Shape).Idx) (inst : Decidable (∀ a : Fin 4, (![0, 0, 0, 0] : Fin 4 → ℕ) a
        ≤ ((ix4 b h t s : S4x8x8192x8192.Idx) a).val * (![1, 1, 1, 1] : Fin 4 → ℕ) a + (w a).val
        ∧ ((ix4 b h t s : S4x8x8192x8192.Idx) a).val * (![1, 1, 1, 1] : Fin 4 → ℕ) a + (w a).val - (![0, 0, 0, 0] : Fin 4 → ℕ) a < S4x8x8192x8192.size a)), @dite EReal _ inst
      (fun hin => l (fun a => ⟨((ix4 b h t s : S4x8x8192x8192.Idx) a).val * (![1, 1, 1, 1] : Fin 4 → ℕ) a + (w a).val - (![0, 0, 0, 0] : Fin 4 → ℕ) a, (hin a).2⟩)) (fun _ => 0) = if hk : s.val + (w 3).val < 8192 then l (ix4 b h t ⟨s.val + (w 3).val, hk⟩) else 0 := by
    intro w _
    obtain ⟨e0, e1, e2⟩ := e w
    by_cases hk : s.val + (w 3).val < 8192
    · rw [dif_pos hk, dif_pos]
      · refine congrArg l (funext fun a => Fin.ext ?_)
        match a with
        | ⟨0, _⟩ => show b.val * 1 + (w 0).val - 0 = b.val; omega
        | ⟨1, _⟩ => show h.val * 1 + (w 1).val - 0 = h.val; omega
        | ⟨2, _⟩ => show t.val * 1 + (w 2).val - 0 = t.val; omega
        | ⟨3, _⟩ => show s.val * 1 + (w 3).val - 0 = s.val + (w 3).val; omega
      · intro a
        match a with
        | ⟨0, _⟩ => show 0 ≤ b.val * 1 + (w 0).val ∧ b.val * 1 + (w 0).val - 0 < 4; omega
        | ⟨1, _⟩ => show 0 ≤ h.val * 1 + (w 1).val ∧ h.val * 1 + (w 1).val - 0 < 8; omega
        | ⟨2, _⟩ => show 0 ≤ t.val * 1 + (w 2).val ∧ t.val * 1 + (w 2).val - 0 < 8192; omega
        | ⟨3, _⟩ => show 0 ≤ s.val * 1 + (w 3).val ∧ s.val * 1 + (w 3).val - 0 < 8192; omega
    · rw [dif_neg hk, dif_neg]
      intro hin
      have h3 : 0 ≤ s.val * 1 + (w 3).val ∧ s.val * 1 + (w 3).val - 0 < 8192 := hin 3
      omega
  refine ((Finset.sum_congr rfl fun n _ => ?_).trans (Equiv.sum_comp (⟨4, ![1, 1, 1, 8192]⟩ : Shape).rowMajor.symm
    (fun w : (⟨4, ![1, 1, 1, 8192]⟩ : Shape).Idx => if hk : s.val + (w 3).val < 8192 then l (ix4 b h t ⟨s.val + (w 3).val, hk⟩) else 0))).trans ?_
  · exact key _ _
  · rw [sum_idx4]
    simp only [Fin.sum_univ_one]
    rfl
/-- A query's score against a key, from `h`. -/
theorem score_at (a0 : FVec Ideal S4x8192x2560 .bf16) (b : Fin 4) (h : Fin 8) (t s : Fin 8192) : score (qs a0) (ks a0) (ix4 b h t s)
    = (∑ x : Fin 64, a0 (ix3 b t ⟨h.val * 64 + x.val, by omega⟩) * a0 (ix3 b s ⟨512 + (h.val * 64 + x.val), by omega⟩)) * Ideal.ofBits .f32 0x3E000000#32 := by
  pointwise [score, qs, ks, heads]

/-- The logarithm of the logistic function at `-z`, in the reference's spelling. -/
def spOf (z : EReal) : EReal := -(max z 0 + Ideal.log1p (Ideal.exp (-FloatOps.absf (F := Ideal) (φ := .f32) z)))

theorem leaves_at (z : FVec Ideal S4x8x8192x8192 .f32) (b : Fin 4) (h : Fin 8) (t s : Fin 8192) :
    leaves z (ix4 b h t s) = if s.val < t.val then spOf (z (ix4 b h t s)) else 0 := by
  have ht := t.isLt
  have hs := s.isLt
  pointwise [leaves, logSig, causal, zero4]
  rw [WordCmp.cmpi_slt_ofNat (by omega) (by omega), neg_neg, if_neg (by simp)]
  by_cases hst : s.val < t.val <;> simp [Scalar.select, hst, spOf]

theorem weights_at (z c l : FVec Ideal S4x8x8192x8192 .f32) (b : Fin 4) (h : Fin 8) (t s : Fin 8192) :
    weights z c l (ix4 b h t s) = if s.val < t.val then Ideal.exp (spOf (-z (ix4 b h t s)) + (c (ix4 b h t s) - l (ix4 b h t s))) else 0 := by
  have ht := t.isLt
  have hs := s.isLt
  pointwise [weights, logSig, causal, zero4]
  rw [WordCmp.cmpi_slt_ofNat (by omega) (by omega), if_neg (by simp)]
  by_cases hst : s.val < t.val <;> simp [Scalar.select, hst, spOf]

theorem mixed_at (w : FVec Ideal S4x8x8192x8192 .f32) (a0 : FVec Ideal S4x8192x2560 .bf16) (b : Fin 4) (t : Fin 8192) (l : Fin 512) : mixed w (vs a0) (ix3 b t l)
   = ∑ x : Fin 8192, w (ix4 b ⟨l.val / 64, by omega⟩ t x) * a0 (ix3 b x ⟨1024 + l.val, by omega⟩) := by
  pointwise [mixed, vs, heads]
end Cert.Proof.AttnRef

end
-- ==== Proof.AttnIdeal.Loop.lean ====
/-
  The attention kernel's loop, row by row.  Before the trip at the bound `n` the scratch holds, for each row, the sum of what the keys
  at or above `n` leave and the sum of their weighted values; a trip adds the keys below the bound, tile by tile, and the loop ends at
  zero, since for real scores the largest running sum stays above −∞.
-/
module

public import proofs.«01_k».proof.Proof.AttnIdeal.Tile
public import proofs.«01_k».proof.Proof.Values.AttnRef
public import Idealize.ShloMosaic.Lib.Pipeline.ValueKit

@[expose] public section

set_option maxRecDepth 16384

noncomputable section
namespace Cert.Proof.AttnIdeal
open Cert.KernelIdeal Cert.KernelIdeal.Gen
open Idealize.ShloMosaic Idealize.ShloMosaic.TcCoe Idealize.ShloMosaic.Tactic
open Idealize.ShloMosaic.Pointwise

/-! ### Real scores -/

theorem soft_real (x : ℝ) : ∃ r : ℝ, Ideal.log (1 + Ideal.exp (0 - FloatOps.absf (F := Ideal) (φ := .f32) (x : EReal))) = r := by
  have h : FloatOps.absf (F := Ideal) (φ := .f32) (x : EReal) = ((|x| : ℝ) : EReal) := by
    show max (x : EReal) (-(x : EReal)) = _
    rw [abs, ← EReal.coe_neg]; exact EReal.coe_strictMono.monotone.map_max.symm
  rw [h, show (0 : EReal) - ((|x| : ℝ) : EReal) = ((-|x| : ℝ) : EReal) from by rw [zero_sub, EReal.coe_neg], Ideal.exp_coe,
    show (1 : EReal) + ((Real.exp (-|x|) : ℝ) : EReal) = ((1 + Real.exp (-|x|) : ℝ) : EReal) from by rw [EReal.coe_add, EReal.coe_one], Ideal.log_coe,
    if_neg (not_le.2 (by positivity))]
  exact ⟨_, rfl⟩

theorem l1_real (x : ℝ) : ∃ r : ℝ, l1Of x = r := by
  obtain ⟨y, hy⟩ := soft_real x
  refine ⟨min (-x) 0 - y, ?_⟩
  unfold l1Of
  rw [hy, zero_sub, EReal.coe_sub, ← EReal.coe_neg]
  congr 1

theorem absf_neg (x : ℝ) : FloatOps.absf (F := Ideal) (φ := .f32) (-(x : EReal)) = FloatOps.absf (F := Ideal) (φ := .f32) (x : EReal) := by
  show max (-(x : EReal)) (- -(x : EReal)) = max (x : EReal) (-(x : EReal))
  rw [neg_neg, max_comm]

theorem sp_eq_l1 (x : ℝ) : AttnRef.spOf x = l1Of x := by
  obtain ⟨y, hy⟩ := soft_real x
  unfold AttnRef.spOf l1Of Ideal.log1p
  rw [hy, ← zero_sub (FloatOps.absf _), hy, zero_sub, ← EReal.coe_neg]
  have h1 : max (x : EReal) 0 = ((max x 0 : ℝ) : EReal) := (EReal.coe_strictMono.monotone.map_max).symm
  have h2 : min ((-x : ℝ) : EReal) 0 = ((min (-x) 0 : ℝ) : EReal) := (EReal.coe_strictMono.monotone.map_min).symm
  rw [h1, h2, ← EReal.coe_add, ← EReal.coe_neg, ← EReal.coe_sub]
  congr 1
  rcases le_total x 0 with h | h
  · rw [max_eq_right h, min_eq_right (by linarith)]; ring
  · rw [max_eq_left h, min_eq_left (by linarith)]; ring

theorem sp_eq_lb (x : ℝ) : AttnRef.spOf (-x) = lbOf x := by
  obtain ⟨y, hy⟩ := soft_real x
  unfold AttnRef.spOf lbOf Ideal.log1p
  rw [absf_neg, hy, ← zero_sub (FloatOps.absf _), hy, ← EReal.coe_neg]
  have h1 : max ((-x : ℝ) : EReal) 0 = ((max (-x) 0 : ℝ) : EReal) := (EReal.coe_strictMono.monotone.map_max).symm
  have h2 : min (x : EReal) 0 = ((min x 0 : ℝ) : EReal) := (EReal.coe_strictMono.monotone.map_min).symm
  rw [h1, h2, ← EReal.coe_add, ← EReal.coe_neg, ← EReal.coe_sub]
  congr 1
  rcases le_total x 0 with h | h
  · rw [max_eq_left (by linarith), min_eq_left h]; ring
  · rw [max_eq_right (by linarith), min_eq_right h]; ring

/-! ### Sums over the keys above a bound -/

theorem fin_suf (f : ℕ → EReal) (B : ℕ) (c : Fin 128) :
    ∑ x : Fin 128, (if c < x then f (B + x.val) else 0) = ∑ s ∈ Finset.Ico (B + c.val + 1) (B + 128), f s := by
  have e : ∀ x : Fin 128, (if c < x then f (B + x.val) else 0) = (fun n : ℕ => if c.val < n then f (B + n) else 0) x.val := fun x => rfl
  rw [Finset.sum_congr rfl fun x _ => e x, Fin.sum_univ_eq_sum_range (fun n : ℕ => if c.val < n then f (B + n) else 0) 128, ← Finset.sum_filter,
    show (Finset.range 128).filter (fun n => c.val < n) = Finset.Ico (c.val + 1) 128 from by ext n; simp; omega, Finset.sum_Ico_add]
  rw [show c.val + 1 + B = B + c.val + 1 from by omega, show 128 + B = B + 128 from by omega]

theorem fin_tot (f : ℕ → EReal) (B : ℕ) : ∑ x : Fin 128, f (B + x.val) = ∑ s ∈ Finset.Ico B (B + 128), f s := by
  rw [Fin.sum_univ_eq_sum_range (fun n : ℕ => f (B + n)) 128, Finset.range_eq_Ico, Finset.sum_Ico_add, Nat.zero_add, Nat.add_comm 128 B]

/-- A tile's keys below the bound, summed: the keys at or above it add nothing. -/
theorem cut_sum (f : ℕ → EReal) (hi E k : ℕ) (hk : k ≤ hi) (hE : hi ≤ E) :
    ∑ s ∈ Finset.Ico k E, (if s < hi then f s else 0) = ∑ s ∈ Finset.Ico k hi, f s := by
  rw [← Finset.sum_Ico_consecutive _ hk hE, Finset.sum_congr rfl (g := f) fun s hs => if_pos (Finset.mem_Ico.1 hs).2,
    Finset.sum_eq_zero (s := Finset.Ico hi E) fun s hs => if_neg (not_lt.2 (Finset.mem_Ico.1 hs).1), add_zero]

theorem cut_add (f : ℕ → EReal) (hi E k M : ℕ) (hk : k ≤ hi) (hE : hi ≤ E) (hM : hi ≤ M) :
    ∑ s ∈ Finset.Ico hi M, f s + ∑ s ∈ Finset.Ico k E, (if s < hi then f s else 0) = ∑ s ∈ Finset.Ico k M, f s := by
  rw [cut_sum f hi E k hk hE, add_comm, Finset.sum_Ico_consecutive _ hk hM]

/-! ### The keys of a row -/

abbrev keyOf (s : ℕ) : Fin 8192 := ⟨s % 8192, Nat.mod_lt _ (by decide)⟩

section Row
variable (q : FVec Ideal S256x128 .bf16) (K V : Vec Ideal S1x8192x128 .bf16) (t : ℕ) (r : Fin 256) (c : Fin 128)

/-- The row's score against key `s`; what key `s` leaves; the weighted value of key `s`. -/
def zN (s : ℕ) : EReal := ∑ d : Fin 128, q (ix2 r d) * K (ix3 0 (keyOf s) d)
def lN (s : ℕ) : EReal := if s < t then l1Of (zN q K r s) else 0
def wN (s : ℕ) : EReal :=
  if s < t then Ideal.exp (lbOf (zN q K r s) + ∑ s' ∈ Finset.Ico (s + 1) 8192, lN q K t r s') * V (ix3 0 (keyOf s) c) else 0
/-- The sums over the keys at or above `n`. -/
def lSum (n : ℕ) : EReal := ∑ s ∈ Finset.Ico n 8192, lN q K t r s
def wSum (n : ℕ) : EReal := ∑ s ∈ Finset.Ico n 8192, wN q K V t r c s

theorem lN_real (hz : ∀ s, ∃ x : ℝ, zN q K r s = x) (s : ℕ) : ∃ x : ℝ, lN q K t r s = x := by
  unfold lN
  split
  · obtain ⟨x, hx⟩ := hz s; rw [hx]; exact l1_real x
  · exact ⟨0, rfl⟩

theorem sum_real {ι : Type} (A : Finset ι) (f : ι → EReal) (h : ∀ i ∈ A, ∃ x : ℝ, f i = x) : ∃ x : ℝ, ∑ i ∈ A, f i = x := by
  classical
  induction A using Finset.induction_on with
  | empty => exact ⟨0, by simp⟩
  | insert a A ha ih =>
    obtain ⟨x, hx⟩ := h a (Finset.mem_insert_self a A)
    obtain ⟨y, hy⟩ := ih fun i hi => h i (Finset.mem_insert_of_mem hi)
    exact ⟨x + y, by rw [Finset.sum_insert ha, hx, hy, EReal.coe_add]⟩

theorem lSum_real (hz : ∀ s, ∃ x : ℝ, zN q K r s = x) (n : ℕ) : ∃ x : ℝ, lSum q K t r n = x :=
  sum_real _ _ fun s _ => lN_real q K t r hz s

/-! ### A tile of a trip -/

variable (m : IVec S256x128 1) (kt vt : Vec Ideal S1x128x128 .bf16) (B hi : ℕ)

theorem lT_eq (hm : ∀ c : Fin 128, m (ix2 r c) = BitVec.ofBool (decide (B + c.val < t ∧ B + c.val < hi)))
    (hk : ∀ (c d : Fin 128), kt (ix3 0 c d) = K (ix3 0 (keyOf (B + c.val)) d)) (c : Fin 128) :
    zT q kt r c = zN q K r (B + c.val) ∧ lT q m kt r c = (fun s => if s < hi then lN q K t r s else 0) (B + c.val) := by
  have hz : zT q kt r c = zN q K r (B + c.val) := Finset.sum_congr rfl fun d _ => by rw [hk]
  refine ⟨hz, ?_⟩
  unfold lT
  rw [hm, sel_ofBool, hz]
  unfold lN
  by_cases h1 : B + c.val < t <;> by_cases h2 : B + c.val < hi <;> simp [h1, h2]

theorem sum_lo (hz : ∀ s, ∃ x : ℝ, zN q K r s = x)
    (hm : ∀ c : Fin 128, m (ix2 r c) = BitVec.ofBool (decide (B + c.val < t ∧ B + c.val < hi)))
    (hk : ∀ (c d : Fin 128), kt (ix3 0 c d) = K (ix3 0 (keyOf (B + c.val)) d)) (c : Fin 128) :
    k0_pay25 q (k0_pay9 (F := Ideal)) m kt (ix2 r ⟨c.val, by omega⟩)
      = ∑ s ∈ Finset.Ico (B + c.val + 1) (B + 128), (if s < hi then lN q K t r s else 0) := by
  rw [sum_at, ← fin_suf (fun s => if s < hi then lN q K t r s else 0), Finset.sum_eq_zero (f := fun x => (lT q m kt r x - lT q m kt r x) * _), add_zero]
  · refine Finset.sum_congr rfl fun x _ => ?_
    rw [w_lo, (lT_eq q K t r m kt B hi hm hk x).2, mul_ite, mul_one, mul_zero]
  · intro x _
    have : ∃ y : ℝ, lT q m kt r x = y := by
      rw [(lT_eq q K t r m kt B hi hm hk x).2]
      dsimp only
      split
      · exact lN_real q K t r hz _
      · exact ⟨0, rfl⟩
    obtain ⟨y, hy⟩ := this
    rw [hy, ← EReal.coe_sub, sub_self, EReal.coe_zero, zero_mul]

theorem sum_hi (hz : ∀ s, ∃ x : ℝ, zN q K r s = x)
    (hm : ∀ c : Fin 128, m (ix2 r c) = BitVec.ofBool (decide (B + c.val < t ∧ B + c.val < hi)))
    (hk : ∀ (c d : Fin 128), kt (ix3 0 c d) = K (ix3 0 (keyOf (B + c.val)) d)) (c : Fin 128) :
    k0_pay25 q (k0_pay9 (F := Ideal)) m kt (ix2 r ⟨128 + c.val, by omega⟩)
      = ∑ s ∈ Finset.Ico B (B + 128), (if s < hi then lN q K t r s else 0) := by
  rw [sum_at, ← fin_tot (fun s => if s < hi then lN q K t r s else 0), Finset.sum_eq_zero (f := fun x => (lT q m kt r x - lT q m kt r x) * _), add_zero]
  · refine Finset.sum_congr rfl fun x _ => ?_
    rw [w_hi, (lT_eq q K t r m kt B hi hm hk x).2, mul_one]
  · intro x _
    have : ∃ y : ℝ, lT q m kt r x = y := by
      rw [(lT_eq q K t r m kt B hi hm hk x).2]
      dsimp only
      split
      · exact lN_real q K t r hz _
      · exact ⟨0, rfl⟩
    obtain ⟨y, hy⟩ := this
    rw [hy, ← EReal.coe_sub, sub_self, EReal.coe_zero, zero_mul]

theorem wT_eq (hz : ∀ s, ∃ x : ℝ, zN q K r s = x)
    (hm : ∀ c : Fin 128, m (ix2 r c) = BitVec.ofBool (decide (B + c.val < t ∧ B + c.val < hi)))
    (hk : ∀ (c d : Fin 128), kt (ix3 0 c d) = K (ix3 0 (keyOf (B + c.val)) d))
    (hv : ∀ (c d : Fin 128), vt (ix3 0 c d) = V (ix3 0 (keyOf (B + c.val)) d))
    (E : ℕ) (hBE : B + 128 ≤ E) (hE : hi ≤ E) (hhi : hi ≤ 8192) (ru : Fin 128 → EReal)
    (hru : ∀ x, ru x = lSum q K t r hi + ∑ s ∈ Finset.Ico (B + 128) E, (if s < hi then lN q K t r s else 0)) :
    wT q m kt vt (k0_pay25 q (k0_pay9 (F := Ideal)) m kt) ru r c = ∑ s ∈ Finset.Ico B (B + 128), (if s < hi then wN q K V t r c s else 0) := by
  rw [← fin_tot (fun s => if s < hi then wN q K V t r c s else 0)]
  unfold wT
  refine Finset.sum_congr rfl fun x _ => ?_
  have hx := x.isLt
  rw [hm, sel_ofBool, hru, sum_lo q K t r m kt B hi hz hm hk, (lT_eq q K t r m kt B hi hm hk x).1, hv]
  unfold wN
  by_cases h2 : B + x.val < hi
  · by_cases h1 : B + x.val < t
    · simp only [h1, h2, and_self, if_true]
      congr 2
      rw [add_assoc, add_left_comm (Finset.sum _ _) (lSum q K t r hi), Finset.sum_Ico_consecutive _ (by omega) hBE]
      unfold lSum
      rw [cut_add _ hi E _ 8192 (by omega) hE hhi]
    · simp [h1]
  · simp [h2]

end Row
/-! ### A trip, head by head -/

theorem ldK (K : Vec Ideal S1x8192x128 .bf16) (B : ℕ) (c d : Fin 128) (h : B + c.val < 8192) :
    K (ix3 0 ⟨B + c.val, h⟩ d) = K (ix3 0 (keyOf (B + c.val)) d) := by
  congr 2
  exact Fin.ext (Nat.mod_eq_of_lt h).symm

theorem ldH0 (R : Vec Ideal S2x256x128 .f32) (r : Fin 256) (c : Fin 128) :
    View.ld (Val := Elt Ideal) (e' := .f32) R rH0 (ix3 0 r c) = R (ix3 0 r c) := by
  pointwise []
theorem ldH1 (R : Vec Ideal S2x256x128 .f32) (r : Fin 256) (c : Fin 128) :
    View.ld (Val := Elt Ideal) (e' := .f32) R rH1 (ix3 0 r c) = R (ix3 1 r c) := by
  pointwise []

/-- Adding one more stretch of keys below those already summed. -/
theorem add_below (f : ℕ → EReal) (S : EReal) (a b c : ℕ) (hab : a ≤ b) (hbc : b ≤ c) :
    S + ∑ s ∈ Finset.Ico b c, f s + ∑ s ∈ Finset.Ico a b, f s = S + ∑ s ∈ Finset.Ico a c, f s := by
  rw [add_assoc, add_comm (Finset.sum (Finset.Ico b c) f), Finset.sum_Ico_consecutive _ hab hbc]

section Head

/-- The masks of a trip's four tiles. -/
abbrev mk0 (i : grid0.Coords) (n : Fin 33) := k0_pay13 (k0_pay8 i) (iota .tc S256x128 32 [1] iota_S256x128_d1_w32) (hiW n)
abbrev mk1 (i : grid0.Coords) (n : Fin 33) := k0_pay14 (k0_pay8 i) (iota .tc S256x128 32 [1] iota_S256x128_d1_w32) (hiW n)
abbrev mk2 (i : grid0.Coords) (n : Fin 33) := k0_pay15 (k0_pay8 i) (iota .tc S256x128 32 [1] iota_S256x128_d1_w32) (hiW n)
abbrev mk3 (i : grid0.Coords) (n : Fin 33) := k0_pay16 (k0_pay8 i) (iota .tc S256x128 32 [1] iota_S256x128_d1_w32) (hiW n)

/-- The four tiles of an array of keys or of values. -/
abbrev tl0 (K : Vec Ideal S1x8192x128 .bf16) (n : Fin 33) : Vec Ideal S1x128x128 .bf16 := View.ld K (rK0 (hiW n) (chk_hi n))
abbrev tl1 (K : Vec Ideal S1x8192x128 .bf16) (n : Fin 33) : Vec Ideal S1x128x128 .bf16 := View.ld K (rK1 (hiW n) (chk_hi n))
abbrev tl2 (K : Vec Ideal S1x8192x128 .bf16) (n : Fin 33) : Vec Ideal S1x128x128 .bf16 := View.ld K (rK2 (hiW n) (chk_hi n))
abbrev tl3 (K : Vec Ideal S1x8192x128 .bf16) (n : Fin 33) : Vec Ideal S1x128x128 .bf16 := View.ld K (rK3 (hiW n) (chk_hi n))

theorem tl0_at (K : Vec Ideal S1x8192x128 .bf16) (n : Fin 33) (c d : Fin 128) : tl0 K n (ix3 0 c d) = K (ix3 0 (keyOf (256 * n.val - 512 + 0 + c.val)) d) :=
  (ld_at0 K n c d).trans (ldK K _ c d _)
theorem tl1_at (K : Vec Ideal S1x8192x128 .bf16) (n : Fin 33) (c d : Fin 128) : tl1 K n (ix3 0 c d) = K (ix3 0 (keyOf (256 * n.val - 512 + 128 + c.val)) d) :=
  (ld_at1 K n c d).trans (ldK K _ c d _)
theorem tl2_at (K : Vec Ideal S1x8192x128 .bf16) (n : Fin 33) (c d : Fin 128) : tl2 K n (ix3 0 c d) = K (ix3 0 (keyOf (256 * n.val - 512 + 256 + c.val)) d) :=
  (ld_at2 K n c d).trans (ldK K _ c d _)
theorem tl3_at (K : Vec Ideal S1x8192x128 .bf16) (n : Fin 33) (c d : Fin 128) : tl3 K n (ix3 0 c d) = K (ix3 0 (keyOf (256 * n.val - 512 + 384 + c.val)) d) :=
  (ld_at3 K n c d).trans (ldK K _ c d _)

variable (q : FVec Ideal S256x128 .bf16) (K V : Vec Ideal S1x8192x128 .bf16) (i : grid0.Coords) (n : Fin 33)
  (ro a : Vec Ideal S1x256x128 .f32) (r : Fin 256)

theorem head_run (hz : ∀ s, ∃ x : ℝ, zN q K r s = x)
    (hro : ∀ c : Fin 128, ro (ix3 0 r c) = lSum q K (256 * (i 2).val + r.val) r (256 * n.val)) (c : Fin 128) :
    run0 q (k0_pay9 (F := Ideal)) (mk0 i n) (mk1 i n) (mk2 i n) (mk3 i n) (tl0 K n) (tl1 K n) (tl2 K n) (tl3 K n) ro (ix2 r c)
      = lSum q K (256 * (i 2).val + r.val) r (256 * (n.val - 2)) := by
  have hn := n.isLt
  rw [run0_at, hro,
    sum_hi q K _ r _ _ _ _ hz (m_at3 i n r) (tl3_at K n), sum_hi q K _ r _ _ _ _ hz (m_at2 i n r) (tl2_at K n),
    sum_hi q K _ r _ _ _ _ hz (m_at1 i n r) (tl1_at K n), sum_hi q K _ r _ _ _ _ hz (m_at0 i n r) (tl0_at K n),
    add_below _ _ _ _ _ (by omega) (by omega), add_below _ _ _ _ _ (by omega) (by omega), add_below _ _ _ _ _ (by omega) (by omega)]
  unfold lSum
  rw [cut_add _ (256 * n.val) _ _ 8192 (by omega) (by omega) (by omega), show 256 * (n.val - 2) = 256 * n.val - 512 + 0 from by omega]

theorem head_val (hz : ∀ s, ∃ x : ℝ, zN q K r s = x)
    (hro : ∀ c : Fin 128, ro (ix3 0 r c) = lSum q K (256 * (i 2).val + r.val) r (256 * n.val))
    (ha : ∀ c : Fin 128, a (ix3 0 r c) = wSum q K V (256 * (i 2).val + r.val) r c (256 * n.val)) (c : Fin 128) :
    newA0 q (k0_pay9 (F := Ideal)) (mk0 i n) (mk1 i n) (mk2 i n) (mk3 i n) (tl0 K n) (tl1 K n) (tl2 K n) (tl3 K n)
      (tl0 V n) (tl1 V n) (tl2 V n) (tl3 V n) ro a (ix3 0 r c)
      = wSum q K V (256 * (i 2).val + r.val) r c (256 * (n.val - 2)) := by
  have hn := n.isLt
  have h3 := sum_hi q K _ r _ _ _ _ hz (m_at3 i n r) (tl3_at K n)
  have h2 := sum_hi q K _ r _ _ _ _ hz (m_at2 i n r) (tl2_at K n)
  have h1 := sum_hi q K _ r _ _ _ _ hz (m_at1 i n r) (tl1_at K n)
  rw [newA0_at, ha,
    wT_eq q K V _ r c _ _ _ _ _ hz (m_at3 i n r) (tl3_at K n) (tl3_at V n) (256 * n.val - 512 + 384 + 128) (by omega) (by omega) (by omega) _
      (fun x => by rw [hro, Finset.Ico_self, Finset.sum_empty, add_zero]),
    wT_eq q K V _ r c _ _ _ _ _ hz (m_at2 i n r) (tl2_at K n) (tl2_at V n) (256 * n.val - 512 + 384 + 128) (by omega) (by omega) (by omega) _
      (fun x => by rw [hro, h3]),
    wT_eq q K V _ r c _ _ _ _ _ hz (m_at1 i n r) (tl1_at K n) (tl1_at V n) (256 * n.val - 512 + 384 + 128) (by omega) (by omega) (by omega) _
      (fun x => by rw [hro, h3, h2, add_below _ _ _ _ _ (by omega) (by omega)]),
    wT_eq q K V _ r c _ _ _ _ _ hz (m_at0 i n r) (tl0_at K n) (tl0_at V n) (256 * n.val - 512 + 384 + 128) (by omega) (by omega) (by omega) _
      (fun x => by rw [hro, h3, h2, h1, add_below _ _ _ _ _ (by omega) (by omega), add_below _ _ _ _ _ (by omega) (by omega)]),
    ← add_assoc, ← add_assoc, ← add_assoc,
    add_below _ _ _ _ _ (by omega) (by omega), add_below _ _ _ _ _ (by omega) (by omega), add_below _ _ _ _ _ (by omega) (by omega)]
  unfold wSum
  rw [cut_add _ (256 * n.val) _ _ 8192 (by omega) (by omega) (by omega), show 256 * (n.val - 2) = 256 * n.val - 512 + 0 from by omega]

end Head

/-! ### The loop -/

section Loop
variable (q8 q9 : FVec Ideal S256x128 .bf16) (K V : Vec Ideal S1x8192x128 .bf16) (i : grid0.Coords)

/-- Before the trip at the bound `256 * n` the scratch holds the sums over the keys at or above it. -/
structure Inv (n : ℕ) (R A : Vec Ideal S2x256x128 .f32) : Prop where
  r0 : ∀ (r : Fin 256) (c : Fin 128), R (ix3 0 r c) = lSum q8 K (256 * (i 2).val + r.val) r (256 * n)
  r1 : ∀ (r : Fin 256) (c : Fin 128), R (ix3 1 r c) = lSum q9 K (256 * (i 2).val + r.val) r (256 * n)
  a0 : ∀ (r : Fin 256) (c : Fin 128), A (ix3 0 r c) = wSum q8 K V (256 * (i 2).val + r.val) r c (256 * n)
  a1 : ∀ (r : Fin 256) (c : Fin 128), A (ix3 1 r c) = wSum q9 K V (256 * (i 2).val + r.val) r c (256 * n)

abbrev v14 : IVec S256x128 32 := iota .tc S256x128 32 [1] iota_S256x128_d1_w32

theorem halves0 (x y : Vec Ideal S1x256x128 .f32) (r : Fin 256) (c : Fin 128) :
    View.canon (Val := Elt Ideal) (s := S2x256x128) (e := .f32) [⟨rH1, x⟩, ⟨rH0, y⟩] (ix3 0 r c) = y (ix3 0 r c) := by
  canon_tiles z h
  · exact absurd h0 (by show ¬ (0 : ℕ) = 1 + _; omega)
  · blk_ext <;> [exact h1.symm; exact h2.symm]
theorem halves1 (x y : Vec Ideal S1x256x128 .f32) (r : Fin 256) (c : Fin 128) :
    View.canon (Val := Elt Ideal) (s := S2x256x128) (e := .f32) [⟨rH1, x⟩, ⟨rH0, y⟩] (ix3 1 r c) = x (ix3 0 r c) := by
  canon_tiles z h
  · blk_ext <;> [exact h1.symm; exact h2.symm]
  · exact absurd h0 (by show ¬ (1 : ℕ) = _; omega)

/-- The largest running sum is above −∞ when one running sum is. -/
theorem max_above (x y : FVec Ideal S256x128 .f32) (h : ⊥ < x (ix2 0 0)) : ⊥ < k0_pay2 x y := by
  pointwise [k0_pay2]
  rw [Finset.lt_fold_max]
  exact Or.inr ⟨(0, 0), Finset.mem_univ _, lt_of_lt_of_le h (le_max_left _ _)⟩

theorem hi_pos : ∀ n : Fin 33, n ≠ 0 → Scalar.cmpi .sgt (hiW n.val) 0#32 = 1#1 := by decide +kernel

/-- The test passes at a bound above zero when the largest running sum is above −∞. -/
theorem goes_above (n : Fin 33) (hn : n ≠ 0) (cm : EReal) (h : ⊥ < cm) : goes (F := Ideal) (hiW n.val) cm := by
  have hk : Named.named (F := Ideal) (φ := .f32) κ "exp_zero_below" 0xC2DC0000#32 = (⊥ : EReal) := rfl
  unfold goes
  rw [hi_pos n hn]
  pointwise []
  rw [hk, decide_eq_true h]
  rfl

theorem loop_inv (h8 : ∀ r s, ∃ x : ℝ, zN q8 K r s = x) (h9 : ∀ r s, ∃ x : ℝ, zN q9 K r s = x) :
    ∀ (k n : ℕ) (cm : EReal) (R A : Vec Ideal S2x256x128 .f32), n ≤ 2 * k → n < 33 → ⊥ < cm → Inv q8 q9 K V i n R A →
      Inv q8 q9 K V i 0 (loop (F := Ideal) q8 q9 (k0_pay9 (F := Ideal)) (k0_pay8 i) v14 K V k n cm R A).1
        (loop (F := Ideal) q8 q9 (k0_pay9 (F := Ideal)) (k0_pay8 i) v14 K V k n cm R A).2
  | 0, n, cm, R, A, hk, _, _, hI => by
    obtain rfl : n = 0 := by omega
    exact hI
  | k + 1, n, cm, R, A, hk, hn, hcm, hI => by
    by_cases h0 : n = 0
    · subst h0
      unfold loop
      rw [dif_pos (by omega), if_neg (not_goes_zero _)]
      exact hI
    · unfold loop
      rw [dif_pos hn, if_pos (goes_above ⟨n, hn⟩ (fun h => h0 (congrArg Fin.val h)) cm hcm)]
      have hr0 := fun r c => head_run q8 K i ⟨n, hn⟩ (View.ld R rH0) r (h8 r) (fun c => (ldH0 R r c).trans (hI.r0 r c)) c
      have hr1 := fun r c => head_run q9 K i ⟨n, hn⟩ (View.ld R rH1) r (h9 r) (fun c => (ldH1 R r c).trans (hI.r1 r c)) c
      refine loop_inv h8 h9 k (n - 2) _ _ _ (by omega) (by omega) (max_above _ _ ?_) ⟨?_, ?_, ?_, ?_⟩
      · obtain ⟨x, hx⟩ := lSum_real q8 K (256 * (i 2).val + (0 : Fin 256).val) 0 (h8 0) (256 * (n - 2))
        exact lt_of_lt_of_eq (EReal.bot_lt_coe x) ((hr0 0 0).trans hx).symm
      · intro r c
        exact (halves0 _ _ r c).trans ((newR0_at ..).trans (hr0 r c))
      · intro r c
        exact (halves1 _ _ r c).trans ((newR0_at ..).trans (hr1 r c))
      · intro r c
        exact (halves0 _ _ r c).trans (head_val q8 K V i ⟨n, hn⟩ (View.ld R rH0) (View.ld A rH0) r (h8 r)
          (fun c => (ldH0 R r c).trans (hI.r0 r c)) (fun c => (ldH0 A r c).trans (hI.a0 r c)) c)
      · intro r c
        exact (halves1 _ _ r c).trans (head_val q9 K V i ⟨n, hn⟩ (View.ld R rH1) (View.ld A rH1) r (h9 r)
          (fun c => (ldH1 R r c).trans (hI.r1 r c)) (fun c => (ldH1 A r c).trans (hI.a1 r c)) c)

/-- At the first bound every sum is empty of keys before the row. -/
theorem inv_start : Inv q8 q9 K V i ((i 2).val + 1) (k0_pay10 (F := Ideal)) (k0_pay11 (F := Ideal)) := by
  have hl : ∀ (q : FVec Ideal S256x128 .bf16) (r : Fin 256), lSum q K (256 * (i 2).val + r.val) r (256 * ((i 2).val + 1)) = 0 := fun q r =>
    Finset.sum_eq_zero fun s hs => if_neg (by have := (Finset.mem_Ico.1 hs).1; omega)
  have hw : ∀ (q : FVec Ideal S256x128 .bf16) (r : Fin 256) (c : Fin 128), wSum q K V (256 * (i 2).val + r.val) r c (256 * ((i 2).val + 1)) = 0 := fun q r c =>
    Finset.sum_eq_zero fun s hs => if_neg (by have := (Finset.mem_Ico.1 hs).1; omega)
  refine ⟨fun r c => ?_, fun r c => ?_, fun r c => ?_, fun r c => ?_⟩
  · rw [hl]; pointwise [k0_pay10]
  · rw [hl]; pointwise [k0_pay10]
  · rw [hw]; pointwise [k0_pay11]
  · rw [hw]; pointwise [k0_pay11]

/-- The output block: each lane's head has summed the weighted values of all keys before the row. -/
theorem outBlock_at (Q : Vec Ideal S1x256x128 .bf16) (h8 : ∀ r s, ∃ x : ℝ, zN (k0_pay6 Q) K r s = x) (h9 : ∀ r s, ∃ x : ℝ, zN (k0_pay7 Q) K r s = x)
    (r : Fin 256) (c : Fin 128) :
    outBlock (F := Ideal) i Q K V (ix3 0 r c) = if c.val < 64 then wSum (k0_pay6 Q) K V (256 * (i 2).val + r.val) r c 0
      else wSum (k0_pay7 Q) K V (256 * (i 2).val + r.val) r c 0 := by
  have hi : (i 2).val < 32 := (i 2).isLt
  have hI := loop_inv (k0_pay6 Q) (k0_pay7 Q) K V i h8 h9 16 ((i 2).val + 1) (Scalar.ofBits (F := Ideal) .f32 0x00000000#32) (k0_pay10 (F := Ideal)) (k0_pay11 (F := Ideal)) (by omega) (by omega)
    (by pointwise []; exact EReal.bot_lt_zero) (inv_start (k0_pay6 Q) (k0_pay7 Q) K V i)
  have hc := c.isLt
  unfold outBlock
  generalize loop (F := Ideal) _ _ _ _ _ _ _ _ _ _ _ _ = L at hI ⊢
  rw [← hI.a0 r c, ← hI.a1 r c, ← ldH0 L.2, ← ldH1 L.2]
  generalize View.ld L.2 rH0 = a0
  generalize View.ld L.2 rH1 = a1
  pointwise [k0_pay1, k0_pay4]
  rw [WordCmp.cmpi_slt_ofNat (by omega) (by omega), sel_ofBool]

end Loop
end Cert.Proof.AttnIdeal

end
-- ==== Proof.Values.Attn.lean ====
/-
  The attention's value: with finite queries and keys the kernel's result array is the reference's.
-/
module

public import proofs.«01_k».proof.Proof.AttnIdeal.Loop
public import proofs.«01_k».proof.Proof.AttnIdeal.Blocks
public import proofs.«01_k».proof.Proof.Gen.Pre_finite_qk
public import Idealize.ShloMosaic.Lib.ReduceAll

@[expose] public section

set_option maxRecDepth 16384

noncomputable section
namespace Cert.Proof.AttnIdeal
open Cert.KernelIdeal Cert.KernelIdeal.Gen
open Idealize.ShloMosaic Idealize.ShloMosaic.TcCoe Idealize.ShloMosaic.Tactic
open Idealize.ShloMosaic.Pointwise
open Idealize.ShloMosaic.Pipeline (Dat)

/-! ### A row of the reference is the row's weighted sum -/

theorem keyOf_val (s : Fin 8192) : keyOf s.val = s := Fin.ext (Nat.mod_eq_of_lt s.isLt)

section Row
variable (q : FVec Ideal S256x128 .bf16) (K V : Vec Ideal S1x8192x128 .bf16) (r : Fin 256) (c : Fin 128)
  (z : FVec Ideal Cert.ReferenceIdeal.S4x8x8192x8192 .f32) (b : Fin 4) (h : Fin 8) (T : Fin 8192)

theorem leaves_eq (hz : ∀ s : Fin 8192, z (ix4 b h T s) = zN q K r s.val) (hr : ∀ s, ∃ x : ℝ, zN q K r s = x) (s : Fin 8192) :
    AttnRef.leaves z (ix4 b h T s) = lN q K T.val r s.val := by
  rw [AttnRef.leaves_at, hz]
  obtain ⟨x, hx⟩ := hr s.val
  unfold lN
  rw [hx, sp_eq_l1]

theorem cum_eq (hz : ∀ s : Fin 8192, z (ix4 b h T s) = zN q K r s.val) (hr : ∀ s, ∃ x : ℝ, zN q K r s = x) (s : Fin 8192) :
    AttnRef.cum (AttnRef.leaves z) (ix4 b h T s) = lSum q K T.val r s.val := by
  rw [AttnRef.cum_at]
  have e : ∀ k : Fin 8192, (if hk : s.val + k.val < 8192 then AttnRef.leaves z (ix4 b h T ⟨s.val + k.val, hk⟩) else 0)
      = (fun n : ℕ => if s.val + n < 8192 then lN q K T.val r (s.val + n) else 0) k.val := fun k => by
    by_cases hk : s.val + k.val < 8192
    · rw [dif_pos hk, leaves_eq q K r z b h T hz hr]; exact (if_pos hk).symm
    · rw [dif_neg hk]; exact (if_neg hk).symm
  rw [Finset.sum_congr rfl fun k _ => e k, Fin.sum_univ_eq_sum_range (fun n : ℕ => if s.val + n < 8192 then lN q K T.val r (s.val + n) else 0) 8192, Finset.range_eq_Ico,
    Finset.sum_Ico_add (fun n : ℕ => if n < 8192 then lN q K T.val r n else 0), cut_sum _ 8192 _ _ (by omega) (by omega), Nat.zero_add]
  rfl

theorem row_value (hz : ∀ s : Fin 8192, z (ix4 b h T s) = zN q K r s.val) (hr : ∀ s, ∃ x : ℝ, zN q K r s = x) :
    ∑ s : Fin 8192, AttnRef.weights z (AttnRef.cum (AttnRef.leaves z)) (AttnRef.leaves z) (ix4 b h T s) * V (ix3 0 s c) = wSum q K V T.val r c 0 := by
  unfold wSum
  rw [← Finset.range_eq_Ico, ← Fin.sum_univ_eq_sum_range (fun s => wN q K V T.val r c s) 8192]
  refine Finset.sum_congr rfl fun s _ => ?_
  rw [AttnRef.weights_at, hz, leaves_eq q K r z b h T hz hr, cum_eq q K r z b h T hz hr, ite_mul, zero_mul]
  unfold wN
  rw [keyOf_val]
  obtain ⟨x, hx⟩ := hr s.val
  obtain ⟨y, hy⟩ := lN_real q K T.val r hr s.val
  obtain ⟨w, hw⟩ := lSum_real q K T.val r hr (s.val + 1)
  have hc : lSum q K T.val r s.val = lN q K T.val r s.val + lSum q K T.val r (s.val + 1) := Finset.sum_eq_sum_Ico_succ_bot s.isLt _
  rw [hc, hx, sp_eq_lb, show ∑ s' ∈ Finset.Ico (s.val + 1) 8192, lN q K T.val r s' = lSum q K T.val r (s.val + 1) from rfl, hy, hw, ← EReal.coe_add, ← EReal.coe_sub,
    add_sub_cancel_left]

end Row

/-! ### The scores -/

theorem eighth32 : Ideal.ofBits .f32 0x3E000000#32 = ((1 / 8 : ℝ) : EReal) := by
  have h1 : BitVec.extractLsb' (8 + 23) 1 0x3E000000#32 = 0#1 := by decide
  have h2 : (BitVec.extractLsb' 23 8 0x3E000000#32).toNat = 124 := by decide
  have h3 : (BitVec.extractLsb' 0 23 0x3E000000#32).toNat = 0 := by decide
  show Ideal.ieee 8 23 0x3E000000#32 = _
  unfold Ideal.ieee
  simp only [h1, h2, h3]
  norm_num
theorem eighth16 : Ideal.ofBits .bf16 0x3E00#16 = ((1 / 8 : ℝ) : EReal) := by
  have h1 : BitVec.extractLsb' (8 + 7) 1 0x3E00#16 = 0#1 := by decide
  have h2 : (BitVec.extractLsb' 7 8 0x3E00#16).toNat = 124 := by decide
  have h3 : (BitVec.extractLsb' 0 7 0x3E00#16).toNat = 0 := by decide
  show Ideal.ieee 8 7 0x3E00#16 = _
  unfold Ideal.ieee
  simp only [h1, h2, h3]
  norm_num

theorem pay6_at (Q : Vec Ideal S1x256x128 .bf16) (r : Fin 256) (d : Fin 128) :
    k0_pay6 Q (ix2 r d) = if d.val < 64 then Q (ix3 0 r d) * Ideal.ofBits .bf16 0x3E00#16 else 0 := by
  have hd := d.isLt
  pointwise [k0_pay6, k0_pay3, k0_pay4, k0_pay5]
  rw [WordCmp.cmpi_slt_ofNat (by omega) (by omega), sel_ofBool]
theorem pay7_at (Q : Vec Ideal S1x256x128 .bf16) (r : Fin 256) (d : Fin 128) :
    k0_pay7 Q (ix2 r d) = if d.val < 64 then 0 else Q (ix3 0 r d) * Ideal.ofBits .bf16 0x3E00#16 := by
  have hd := d.isLt
  pointwise [k0_pay7, k0_pay3, k0_pay4, k0_pay5]
  rw [WordCmp.cmpi_slt_ofNat (by omega) (by omega), sel_ofBool]

theorem sum_coe {ι : Type} (A : Finset ι) (f : ι → ℝ) : ∑ i ∈ A, ((f i : ℝ) : EReal) = ((∑ i ∈ A, f i : ℝ) : EReal) := by
  classical
  induction A using Finset.induction_on with
  | empty => simp
  | insert a A ha ih => rw [Finset.sum_insert ha, Finset.sum_insert ha, ih, EReal.coe_add]

theorem zN6 (Q : Vec Ideal S1x256x128 .bf16) (K : Vec Ideal S1x8192x128 .bf16) (r : Fin 256) (s : ℕ)
    (hQ : ∀ d, ∃ x : ℝ, Q (ix3 0 r d) = x) (hK : ∀ d, ∃ x : ℝ, K (ix3 0 (keyOf s) d) = x) :
    zN (k0_pay6 Q) K r s = (∑ x : Fin 64, Q (ix3 0 r ⟨x.val, by omega⟩) * K (ix3 0 (keyOf s) ⟨x.val, by omega⟩)) * Ideal.ofBits .f32 0x3E000000#32
      ∧ ∃ x : ℝ, zN (k0_pay6 Q) K r s = x := by
  choose f hf using hQ
  choose g hg using hK
  have h1 : zN (k0_pay6 Q) K r s = ((∑ d : Fin 128, (if d.val < 64 then f d * (1 / 8) else 0) * g d : ℝ) : EReal) := by
    unfold zN
    rw [← sum_coe]
    refine Finset.sum_congr rfl fun d _ => ?_
    rw [pay6_at, hf, hg, eighth16, EReal.coe_mul]
    congr 1
    split <;> simp
  refine ⟨?_, _, h1⟩
  rw [h1, eighth32]
  simp only [hf, hg, ← EReal.coe_mul]
  rw [sum_coe, ← EReal.coe_mul, Fin.sum_univ_add (a := 64) (b := 64), Finset.sum_eq_zero (f := fun i : Fin 64 => _ * g (Fin.natAdd 64 i)), add_zero, Finset.sum_mul]
  · congr 1
    refine Finset.sum_congr rfl fun x _ => ?_
    rw [if_pos (by simp)]
    show f ⟨x.val, _⟩ * (1 / 8) * g ⟨x.val, _⟩ = _
    ring
  · intro x _
    rw [if_neg (by simp), zero_mul]

theorem zN7 (Q : Vec Ideal S1x256x128 .bf16) (K : Vec Ideal S1x8192x128 .bf16) (r : Fin 256) (s : ℕ)
    (hQ : ∀ d, ∃ x : ℝ, Q (ix3 0 r d) = x) (hK : ∀ d, ∃ x : ℝ, K (ix3 0 (keyOf s) d) = x) :
    zN (k0_pay7 Q) K r s = (∑ x : Fin 64, Q (ix3 0 r ⟨64 + x.val, by omega⟩) * K (ix3 0 (keyOf s) ⟨64 + x.val, by omega⟩)) * Ideal.ofBits .f32 0x3E000000#32
      ∧ ∃ x : ℝ, zN (k0_pay7 Q) K r s = x := by
  choose f hf using hQ
  choose g hg using hK
  have h1 : zN (k0_pay7 Q) K r s = ((∑ d : Fin 128, (if d.val < 64 then 0 else f d * (1 / 8)) * g d : ℝ) : EReal) := by
    unfold zN
    rw [← sum_coe]
    refine Finset.sum_congr rfl fun d _ => ?_
    rw [pay7_at, hf, hg, eighth16, EReal.coe_mul]
    congr 1
    split <;> simp
  refine ⟨?_, _, h1⟩
  rw [h1, eighth32]
  simp only [hf, hg, ← EReal.coe_mul]
  rw [sum_coe, ← EReal.coe_mul, Fin.sum_univ_add (a := 64) (b := 64), Finset.sum_eq_zero (f := fun i : Fin 64 => _ * g (Fin.castAdd 64 i)), zero_add, Finset.sum_mul]
  · congr 1
    refine Finset.sum_congr rfl fun x _ => ?_
    rw [if_neg (by simp)]
    show f ⟨64 + x.val, _⟩ * (1 / 8) * g ⟨64 + x.val, _⟩ = _
    ring
  · intro x _
    rw [if_pos (by simp), zero_mul]

/-! ### A block -/

theorem block_eq (i : grid0.Coords) (Q : Vec Ideal S1x256x128 .bf16) (K V : Vec Ideal S1x8192x128 .bf16) (a0 : FVec Ideal S4x8192x2560 .bf16)
    (b hp : Fin 4) (qi : Fin 32) (hqi : (i 2).val = qi.val)
    (hfin : ∀ (t : Fin 8192) (l : Fin 1024), ∃ x : ℝ, a0 (ix3 b t ⟨l.val, by omega⟩) = x)
    (hQ : ∀ (r : Fin 256) (d : Fin 128), Q (ix3 0 r d) = a0 (ix3 b ⟨256 * qi.val + r.val, by omega⟩ ⟨hp.val * 128 + d.val, by omega⟩))
    (hK : ∀ (s : Fin 8192) (d : Fin 128), K (ix3 0 s d) = a0 (ix3 b s ⟨512 + (hp.val * 128 + d.val), by omega⟩))
    (hV : ∀ (s : Fin 8192) (d : Fin 128), V (ix3 0 s d) = a0 (ix3 b s ⟨1024 + (hp.val * 128 + d.val), by omega⟩))
    (r : Fin 256) (c : Fin 128) :
    outBlock (F := Ideal) i Q K V (ix3 0 r c)
      = AttnRef.mixed (AttnRef.weights (AttnRef.score (AttnRef.qs a0) (AttnRef.ks a0)) (AttnRef.cum (AttnRef.leaves (AttnRef.score (AttnRef.qs a0) (AttnRef.ks a0)))) (AttnRef.leaves (AttnRef.score (AttnRef.qs a0) (AttnRef.ks a0)))) (AttnRef.vs a0)
          (ix3 b ⟨256 * qi.val + r.val, by omega⟩ ⟨hp.val * 128 + c.val, by omega⟩) := by
  have hc := c.isLt
  have fQ : ∀ r d, ∃ x : ℝ, Q (ix3 0 r d) = x := fun r d => by
    rw [hQ]; exact hfin _ ⟨hp.val * 128 + d.val, by omega⟩
  have fK : ∀ s d, ∃ x : ℝ, K (ix3 0 s d) = x := fun s d => by
    rw [hK]; exact hfin _ ⟨512 + (hp.val * 128 + d.val), by omega⟩
  rw [outBlock_at K V i Q (fun r s => (zN6 Q K r s (fQ r) (fK _)).2) (fun r s => (zN7 Q K r s (fQ r) (fK _)).2), AttnRef.mixed_at, hqi]
  generalize hz : AttnRef.score (AttnRef.qs a0) (AttnRef.ks a0) = z
  by_cases h : c.val < 64
  · rw [if_pos h, ← row_value (k0_pay6 Q) K V r c z b ⟨2 * hp.val, by omega⟩ ⟨256 * qi.val + r.val, by omega⟩ ?_ (fun s => (zN6 Q K r s (fQ r) (fK _)).2)]
    · refine Finset.sum_congr rfl fun s _ => ?_
      rw [hV]
      congr 3
      exact Fin.ext (by show 2 * hp.val = (hp.val * 128 + c.val) / 64; omega)
    · intro s
      rw [← hz, (zN6 Q K r s (fQ r) (fK _)).1, AttnRef.score_at, keyOf_val]
      congr 1
      refine Finset.sum_congr rfl fun x _ => ?_
      rw [hQ, hK]
      congr 3
      · exact Fin.ext (by show 2 * hp.val * 64 + x.val = hp.val * 128 + x.val; omega)
      · exact Fin.ext (by show 512 + (2 * hp.val * 64 + x.val) = 512 + (hp.val * 128 + x.val); omega)
  · rw [if_neg h, ← row_value (k0_pay7 Q) K V r c z b ⟨2 * hp.val + 1, by omega⟩ ⟨256 * qi.val + r.val, by omega⟩ ?_ (fun s => (zN7 Q K r s (fQ r) (fK _)).2)]
    · refine Finset.sum_congr rfl fun s _ => ?_
      rw [hV]
      congr 3
      exact Fin.ext (by show 2 * hp.val + 1 = (hp.val * 128 + c.val) / 64; omega)
    · intro s
      rw [← hz, (zN7 Q K r s (fQ r) (fK _)).1, AttnRef.score_at, keyOf_val]
      congr 1
      refine Finset.sum_congr rfl fun x _ => ?_
      rw [hQ, hK]
      congr 3
      · exact Fin.ext (by show (2 * hp.val + 1) * 64 + x.val = hp.val * 128 + (64 + x.val); omega)
      · exact Fin.ext (by show 512 + ((2 * hp.val + 1) * 64 + x.val) = 512 + (hp.val * 128 + (64 + x.val)); omega)

/-! ### The precondition -/

theorem of_word (p : Prop) [Decidable p] (h : BitVec.ofBool (decide p) = 1#1) : p := by
  by_contra hn
  simp [hn] at h

theorem finite_at (a0 : FVec Ideal S4x8192x2560 .bf16) (h : Cert.Pre_finite_qk.fn (F := Ideal) a0 = fun _ => 1#1)
    (b : Fin 4) (t : Fin 8192) (l : Fin 1024) : ∃ x : ℝ, a0 (ix3 b t ⟨l.val, by omega⟩) = x := by
  have e := congrFun h (Shape.Idx.first (by decide))
  unfold Cert.Pre_finite_qk.fn at e
  dsimp only at e
  haveI : Subsingleton Cert.Pre_finite_qk.S_.Idx := ⟨fun _ _ => funext fun a => a.elim0⟩
  have e1 := Host.reduce_andi_all _ _ _ _ _ e (ix3 b t l)
  revert e1
  pointwise []
  intro e1
  have hinf : Ideal.ofBits .f32 2139095040#32 = ⊤ := by
    unfold Ideal.ofBits Ideal.ieee
    norm_num
    decide
  rw [hinf] at e1
  have h2 : max (a0 (ix3 b t ⟨l.val, by omega⟩) : EReal) (-a0 (ix3 b t ⟨l.val, by omega⟩)) < ⊤ := of_word _ e1
  obtain ⟨h3, h4⟩ := max_lt_iff.1 h2
  refine ⟨EReal.toReal _, (EReal.coe_toReal h3.ne fun hb => ?_).symm⟩
  rw [hb] at h4
  simp at h4

/-! ### The result -/

variable (m : (ℓ : Loc nD τ sig) → Buf (Elt Ideal) ℓ)

theorem idx : ∀ t : Fin (cfg0 (F := Ideal)).N, win0_0.index t = ![t.val / 128, t.val % 32, t.val / 32 % 4] ∧ win0_1.index t = ![t.val / 128, 0, 4 + t.val / 32 % 4]
    ∧ win0_2.index t = ![t.val / 128, 0, 8 + t.val / 32 % 4] ∧ win0_3.index t = ![t.val / 128, t.val % 32, t.val / 32 % 4] ∧ (grid0.coords t 2).val = t.val % 32 :=
  (by decide +kernel : ∀ t : Fin grid0.N, _)

theorem final (c : Dev nD) (hpre : Cert.Pre_finite_qk.fn (F := Ideal) (m ((c.tc : Thread nD τ).loc main_arg0)) = fun _ => 1#1) :
    (dats m 0 c).arrAt 3 (cfg0 (F := Ideal)).N
      = (let a0 : FVec Ideal S4x8192x2560 .bf16 := m ((c.tc : Thread nD τ).loc main_arg0); let z := AttnRef.score (AttnRef.qs a0) (AttnRef.ks a0)
         AttnRef.mixed (AttnRef.weights z (AttnRef.cum (AttnRef.leaves z)) (AttnRef.leaves z)) (AttnRef.vs a0)) := by
  refine (dats m 0 c).arrAt_eq_of_covers 3 _ ?_ fun t hf y => ?_
  · decide +kernel
  · blk_simp
    rw [after0_3]
    frame_out
    have hN : t.val < 512 := t.isLt
    have h1 : (y 1).val < 256 := (y 1).isLt
    have h2 : (y 2).val < 128 := (y 2).isLt
    have hy : y = ix3 0 (y 1) (y 2) := by blk_ext []
    have hv : View.emb ((View.whole main_v0).slice (win0_3.rect t)) y = ix3 (⟨t.val / 128, by omega⟩ : Fin 4) (⟨256 * (t.val % 32) + (y 1).val, by omega⟩ : Fin 8192)
        (⟨t.val / 32 % 4 * 128 + (y 2).val, by omega⟩ : Fin 512) := by
      blk_ext [idx t]
    rw [hv]
    refine (congrArg _ hy).trans (block_eq (grid0.coords t) _ _ _ _ ⟨t.val / 128, by omega⟩ ⟨t.val / 32 % 4, by omega⟩ ⟨t.val % 32, by omega⟩ (idx t).2.2.2.2
      (fun s l => finite_at _ hpre _ s l) ?_ ?_ ?_ (y 1) (y 2))
    · intro r d; blk_point [iblk, V, idx t]
    · intro r d; blk_point [iblk, V, idx t]
    · intro r d; blk_point [iblk, V, idx t]

end Cert.Proof.AttnIdeal

end
-- ==== Proof.lean ====
module

public import proofs.«01_k».proof.Defs
public import proofs.«01_k».proof.Proof.Gen.Pre_finite_qk
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.ReferenceIdeal.Run
public import proofs.«01_k».proof.Proof.Attn.Run
public import proofs.«01_k».proof.Proof.AttnIdeal.Blocks
public import proofs.«01_k».proof.Proof.Values.Inproj
public import proofs.«01_k».proof.Proof.Values.Ple
public import proofs.«01_k».proof.Proof.Values.Outproj
public import proofs.«01_k».proof.Proof.Values.Gmlp
public import proofs.«01_k».proof.Proof.Values.Attn
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-! ## The references' frames: host operations only, and no semaphore declared -/

theorem frame_reference : Cert.quiescent_ReferenceIdeal := fun m g _ =>
  (θ_run Cert.ReferenceIdeal.defs _ _).mono
    (fun _ h => ⟨fun c => (h c).2, sem_eq_zero_of_no_sems (by decide) _⟩) (Cert.ReferenceIdeal.Value.run m g)

theorem frame_inproj_reference : Cert.quiescent_InprojRefIdeal := fun m g _ =>
  (θ_run Cert.InprojRefIdeal.defs _ _).mono
    (fun _ h => ⟨fun c => (h c).2, sem_eq_zero_of_no_sems (by decide) _⟩) (Cert.InprojRefIdeal.Value.run m g)

theorem frame_ple_reference : Cert.quiescent_PleRefIdeal := fun m g _ =>
  (θ_run Cert.PleRefIdeal.defs _ _).mono
    (fun _ h => ⟨fun c => (h c).2, sem_eq_zero_of_no_sems (by decide) _⟩) (Cert.PleRefIdeal.Value.run m g)

theorem frame_outproj_reference : Cert.quiescent_OutprojRefIdeal := fun m g _ =>
  (θ_run Cert.OutprojRefIdeal.defs _ _).mono
    (fun _ h => ⟨fun c => (h c).2.2, sem_eq_zero_of_no_sems (by decide) _⟩) (Cert.OutprojRefIdeal.Value.run m g)

theorem frame_gmlp_reference : Cert.quiescent_GmlpRefIdeal := fun m g _ =>
  (θ_run Cert.GmlpRefIdeal.defs _ _).mono
    (fun _ h => ⟨fun c => (h c).2, sem_eq_zero_of_no_sems (by decide) _⟩) (Cert.GmlpRefIdeal.Value.run m g)

theorem frame_reference_finite : Cert.quiescent_ReferenceIdeal_pre_finite_qk := fun m g _ =>
  (θ_run Cert.ReferenceIdeal.defs _ _).mono
    (fun _ h => ⟨fun c => (h c).2, sem_eq_zero_of_no_sems (by decide) _⟩) (Cert.ReferenceIdeal.Value.run m g)

/-! ## The value claims -/

theorem algebraic_attention : Cert.algebraic_KernelIdeal_ReferenceIdeal_pre_finite_qk := fun m g m' g' hpre hagree =>
  ⟨fun c => (Cert.Proof.AttnIdeal.dats m 0 c).arrAt 3 (Cert.KernelIdeal.cfg0 (F := Ideal)).N,
    Cert.Proof.AttnIdeal.run_blocks m g,
    (θ_run Cert.ReferenceIdeal.defs _ _).mono (fun r h c => ⟨(h c).1.trans (by
      rw [Cert.Proof.AttnRef.result_eq, hagree c]; exact (Cert.Proof.AttnIdeal.final m c (hpre c)).symm), (h c).2⟩) (Cert.ReferenceIdeal.Value.run m' g')⟩

theorem algebraic_inproj : Cert.algebraic_InprojIdeal_InprojRefIdeal := by
  pair_intro
  · run_from Cert.InprojIdeal.Gen.run_main m g
  · run_from Cert.InprojRefIdeal.Value.run m' g'
    exact (Cert.Proof.InprojValue.final m c).symm

theorem algebraic_ple : Cert.algebraic_PleIdeal_PleRefIdeal := by
  pair_intro
  · run_from Cert.PleIdeal.Gen.run_main m g
  · run_from Cert.PleRefIdeal.Value.run m' g'
    rw [Cert.Proof.PleValue.final m c, Cert.Proof.PleValue.result_eq]
    obtain ⟨h0, h1, h2, h3, h4, h5, h6⟩ := hagree c
    rw [h0, h1, h2, h3, h4, h5, h6]

theorem algebraic_outproj : Cert.algebraic_OutprojIdeal_OutprojRefIdeal := by
  pair_intro
  · run_from Cert.OutprojIdeal.Gen.run_main m g
  · run_from Cert.OutprojRefIdeal.Value.run m' g'
    · rw [Cert.Proof.OutprojValue.final7 m c, Cert.Proof.OutprojValue.result_eq]
      obtain ⟨h0, h1, h2, h3, h4, h5, h6⟩ := hagree c
      rw [h0, h1, h2, h3, h4, h5, h6]
    · rw [Cert.Proof.OutprojValue.final8 m c, Cert.Proof.OutprojValue.flipped_eq]
      obtain ⟨h0, h1, h2, h3, h4, h5, h6⟩ := hagree c
      rw [h0, h1, h2, h3, h4, h5, h6]

theorem algebraic_gmlp : Cert.algebraic_GmlpIdeal_GmlpRefIdeal := by
  pair_intro
  · run_from Cert.GmlpIdeal.Gen.run_main m g
  · run_from Cert.GmlpRefIdeal.Value.run m' g'
    · rw [Cert.Proof.GmlpValue.final7 m c, Cert.Proof.GmlpValue.result_eq]
      obtain ⟨h0, h1, h2, h3, h4, h5⟩ := hagree c
      rw [h0, h1, h2, h3, h4, h5]

theorem claim : Cert.Claim := ⟨Cert.Kernel.Gen.facts, Cert.KernelIdeal.Gen.facts, Cert.ReferenceIdeal.Gen.facts,
  Cert.Inproj.Gen.facts, Cert.InprojIdeal.Gen.facts, Cert.InprojRefIdeal.Gen.facts,
  Cert.Ple.Gen.facts, Cert.PleIdeal.Gen.facts, Cert.PleRefIdeal.Gen.facts,
  Cert.Outproj.Gen.facts, Cert.OutprojIdeal.Gen.facts, Cert.OutprojRefIdeal.Gen.facts,
  Cert.Gmlp.Gen.facts, Cert.GmlpIdeal.Gen.facts, Cert.GmlpRefIdeal.Gen.facts,
  Cert.Pre_finite_qk.Gen.facts,
  fun m g _ => Cert.Proof.Attn.frame m g,
  fun m g _ => Cert.Proof.AttnIdeal.frame m g, fun m g _ => Cert.Proof.AttnIdeal.frame m g,
  frame_reference, frame_reference_finite,
  fun m g _ => Cert.Inproj.Gen.frame m g, fun m g _ => Cert.InprojIdeal.Gen.frame m g, frame_inproj_reference,
  fun m g _ => Cert.Ple.Gen.frame m g, fun m g _ => Cert.PleIdeal.Gen.frame m g, frame_ple_reference,
  fun m g _ => Cert.Outproj.Gen.frame m g, fun m g _ => Cert.OutprojIdeal.Gen.frame m g, frame_outproj_reference,
  fun m g _ => Cert.Gmlp.Gen.frame m g, fun m g _ => Cert.GmlpIdeal.Gen.frame m g, frame_gmlp_reference,
  IdealRules.named_const.statement _ _ _ _ _ rfl, algebraic_attention,
  trivial, algebraic_inproj,
  trivial, algebraic_ple, trivial, algebraic_outproj, trivial, algebraic_gmlp⟩

end Cert.Proof

end
